-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v5)) (v3 : (c : Dev Cert.KernelIdeal.nD) → Buf (Elt Ideal) ((c.tc : Thread Cert.KernelIdeal.nD Cert.KernelIdeal.τ).loc Cert.KernelIdeal.main_v6)) (v4 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_v6) = v3 c
          ∧ r.2.mem ((c.tc : Thread Cert.KernelIdeal.nD Cert.KernelIdeal.τ).loc Cert.KernelIdeal.main_v9) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v0_4) = v2 c
          ∧ r.2.mem ((c.tc : Thread Cert.ReferenceIdeal.nD Cert.ReferenceIdeal.τ).loc Cert.ReferenceIdeal.main_v0_0) = v3 c
          ∧ r.2.mem ((c.tc : Thread Cert.ReferenceIdeal.nD Cert.ReferenceIdeal.τ).loc Cert.ReferenceIdeal.main_v0_1) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x512x16384 : Shape := ⟨3, ![2, 512, 16384]⟩
abbrev S5120x16384 : Shape := ⟨2, ![5120, 16384]⟩
abbrev S1024x16384 : Shape := ⟨2, ![1024, 16384]⟩
abbrev S1024x128 : Shape := ⟨2, ![1024, 128]⟩
abbrev S64x16384 : Shape := ⟨2, ![64, 16384]⟩
abbrev S64x128 : Shape := ⟨2, ![64, 128]⟩
abbrev S64 : Shape := ⟨1, ![64]⟩
abbrev S64x1 : Shape := ⟨2, ![64, 1]⟩
abbrev S1024x5120 : Shape := ⟨2, ![1024, 5120]⟩
abbrev S5120x4096 : Shape := ⟨2, ![5120, 4096]⟩
abbrev S5120x128 : Shape := ⟨2, ![5120, 128]⟩
abbrev S256x16384 : Shape := ⟨2, ![256, 16384]⟩
abbrev S1024x256 : Shape := ⟨2, ![1024, 256]⟩
abbrev S256x4096 : Shape := ⟨2, ![256, 4096]⟩
abbrev S256x128 : Shape := ⟨2, ![256, 128]⟩
abbrev S8x128 : Shape := ⟨2, ![8, 128]⟩
abbrev S32x128 : Shape := ⟨2, ![32, 128]⟩
abbrev S32 : Shape := ⟨1, ![32]⟩
abbrev S32x1 : Shape := ⟨2, ![32, 1]⟩
abbrev S8x128x1 : Shape := ⟨3, ![8, 128, 1]⟩
abbrev S1024x2048 : Shape := ⟨2, ![1024, 2048]⟩
abbrev S256x2048 : Shape := ⟨2, ![256, 2048]⟩
abbrev S128x128 : Shape := ⟨2, ![128, 128]⟩
abbrev S1x128 : Shape := ⟨2, ![1, 128]⟩
abbrev S1x256 : Shape := ⟨2, ![1, 256]⟩
abbrev S1024x1 : Shape := ⟨2, ![1024, 1]⟩
abbrev S2x512x5120 : Shape := ⟨3, ![2, 512, 5120]⟩
abbrev S5120x1 : Shape := ⟨2, ![5120, 1]⟩
abbrev S5120 : Shape := ⟨1, ![5120]⟩
abbrev S1024 : Shape := ⟨1, ![1024]⟩
abbrev S2x512 : Shape := ⟨2, ![2, 512]⟩

abbrev nBuf : Space → Nat
  | .hbm => 15
  | .vmem => 18
  | .smem => 0
  | _ => 0

abbrev bufTy : (tb : Table) → Fin (tcTables nBuf tb) → BufTy
  | .hbm, ⟨0, _⟩ => ⟨S2x512x16384, .bf16⟩
  | .hbm, ⟨1, _⟩ => ⟨S5120x16384, .bf16⟩
  | .hbm, ⟨2, _⟩ => ⟨S1024x16384, .bf16⟩
  | .hbm, ⟨3, _⟩ => ⟨S1024x16384, .i8⟩
  | .hbm, ⟨4, _⟩ => ⟨S1024x128, .f32⟩
  | .hbm, ⟨5, _⟩ => ⟨S1024x5120, .bf16⟩
  | .hbm, ⟨6, _⟩ => ⟨S5120x4096, .i8⟩
  | .hbm, ⟨7, _⟩ => ⟨S5120x128, .f32⟩
  | .hbm, ⟨8, _⟩ => ⟨S2x512x5120, .bf16⟩
  | .hbm, ⟨9, _⟩ => ⟨S5120x1, .f32⟩
  | .hbm, ⟨10, _⟩ => ⟨S5120, .f32⟩
  | .hbm, ⟨11, _⟩ => ⟨S2x512x16384, .i8⟩
  | .hbm, ⟨12, _⟩ => ⟨S1024x1, .f32⟩
  | .hbm, ⟨13, _⟩ => ⟨S1024, .f32⟩
  | .hbm, ⟨14, _⟩ => ⟨S2x512, .f32⟩
  | .local _ .vmem, ⟨0, _⟩ => ⟨S64x16384, .bf16⟩
  | .local _ .vmem, ⟨1, _⟩ => ⟨S64x16384, .bf16⟩
  | .local _ .vmem, ⟨2, _⟩ => ⟨S64x16384, .i8⟩
  | .local _ .vmem, ⟨3, _⟩ => ⟨S64x16384, .i8⟩
  | .local _ .vmem, ⟨4, _⟩ => ⟨S64x128, .f32⟩
  | .local _ .vmem, ⟨5, _⟩ => ⟨S64x128, .f32⟩
  | .local _ .vmem, ⟨6, _⟩ => ⟨S256x16384, .bf16⟩
  | .local _ .vmem, ⟨7, _⟩ => ⟨S256x16384, .bf16⟩
  | .local _ .vmem, ⟨8, _⟩ => ⟨S1024x16384, .i8⟩
  | .local _ .vmem, ⟨9, _⟩ => ⟨S1024x128, .f32⟩
  | .local _ .vmem, ⟨10, _⟩ => ⟨S1024x256, .bf16⟩
  | .local _ .vmem, ⟨11, _⟩ => ⟨S1024x256, .bf16⟩
  | .local _ .vmem, ⟨12, _⟩ => ⟨S256x4096, .i8⟩
  | .local _ .vmem, ⟨13, _⟩ => ⟨S256x4096, .i8⟩
  | .local _ .vmem, ⟨14, _⟩ => ⟨S256x128, .f32⟩
  | .local _ .vmem, ⟨15, _⟩ => ⟨S256x128, .f32⟩
  | .local _ .vmem, ⟨16, _⟩ => ⟨S256x16384, .bf16⟩
  | .local _ .vmem, ⟨17, _⟩ => ⟨S1024x256, .f32⟩
  | _, _ => ⟨S2x512x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_scratch0 : Ref sig .tc := ⟨.vmem, 16, rfl⟩
abbrev cc1_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x16384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x16384 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

@[reducible] def k1_t1_loop : Scf.Loop 32 :=
  let c0_i32 : BitVec 32 := 0#32
  let c8_i32 : BitVec 32 := 8#32
  let v16 : BitVec 32 := Scalar.addi c0_i32 c8_i32
  let c1_i32_2 : BitVec 32 := 1#32
  ⟨c0_i32, v16, c1_i32_2⟩
def k1_off1 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v42 : Index := Scalar.indexCast v40
  let c0_19 : Index := 0#32
  ![v42.toNat, 0]
def k1_off2 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v47 : Index := Scalar.indexCast v40
  let c128_20 : Index := 128#32
  ![v47.toNat, 128]
def k1_off3 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v52 : Index := Scalar.indexCast v40
  let c256 : Index := 256#32
  ![v52.toNat, 256]
def k1_off4 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v57 : Index := Scalar.indexCast v40
  let c384 : Index := 384#32
  ![v57.toNat, 384]
def k1_off5 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v62 : Index := Scalar.indexCast v40
  let c512 : Index := 512#32
  ![v62.toNat, 512]
def k1_off6 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v67 : Index := Scalar.indexCast v40
  let c640 : Index := 640#32
  ![v67.toNat, 640]
def k1_off7 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v72 : Index := Scalar.indexCast v40
  let c768 : Index := 768#32
  ![v72.toNat, 768]
def k1_off8 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v77 : Index := Scalar.indexCast v40
  let c896 : Index := 896#32
  ![v77.toNat, 896]
def k1_off9 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v82 : Index := Scalar.indexCast v40
  let c1024 : Index := 1024#32
  ![v82.toNat, 1024]
def k1_off10 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v87 : Index := Scalar.indexCast v40
  let c1152 : Index := 1152#32
  ![v87.toNat, 1152]
def k1_off11 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v92 : Index := Scalar.indexCast v40
  let c1280 : Index := 1280#32
  ![v92.toNat, 1280]
def k1_off12 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v97 : Index := Scalar.indexCast v40
  let c1408 : Index := 1408#32
  ![v97.toNat, 1408]
def k1_off13 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v102 : Index := Scalar.indexCast v40
  let c1536 : Index := 1536#32
  ![v102.toNat, 1536]
def k1_off14 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v107 : Index := Scalar.indexCast v40
  let c1664 : Index := 1664#32
  ![v107.toNat, 1664]
def k1_off15 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v112 : Index := Scalar.indexCast v40
  let c1792 : Index := 1792#32
  ![v112.toNat, 1792]
def k1_off16 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v117 : Index := Scalar.indexCast v40
  let c1920 : Index := 1920#32
  ![v117.toNat, 1920]
def k1_off17 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v122 : Index := Scalar.indexCast v40
  let c2048 : Index := 2048#32
  ![v122.toNat, 2048]
def k1_off18 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v127 : Index := Scalar.indexCast v40
  let c2176 : Index := 2176#32
  ![v127.toNat, 2176]
def k1_off19 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v132 : Index := Scalar.indexCast v40
  let c2304 : Index := 2304#32
  ![v132.toNat, 2304]
def k1_off20 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v137 : Index := Scalar.indexCast v40
  let c2432 : Index := 2432#32
  ![v137.toNat, 2432]
def k1_off21 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v142 : Index := Scalar.indexCast v40
  let c2560 : Index := 2560#32
  ![v142.toNat, 2560]
def k1_off22 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v147 : Index := Scalar.indexCast v40
  let c2688 : Index := 2688#32
  ![v147.toNat, 2688]
def k1_off23 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v152 : Index := Scalar.indexCast v40
  let c2816 : Index := 2816#32
  ![v152.toNat, 2816]
def k1_off24 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v157 : Index := Scalar.indexCast v40
  let c2944 : Index := 2944#32
  ![v157.toNat, 2944]
def k1_off25 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v162 : Index := Scalar.indexCast v40
  let c3072 : Index := 3072#32
  ![v162.toNat, 3072]
def k1_off26 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v167 : Index := Scalar.indexCast v40
  let c3200 : Index := 3200#32
  ![v167.toNat, 3200]
def k1_off27 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v172 : Index := Scalar.indexCast v40
  let c3328 : Index := 3328#32
  ![v172.toNat, 3328]
def k1_off28 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v177 : Index := Scalar.indexCast v40
  let c3456 : Index := 3456#32
  ![v177.toNat, 3456]
def k1_off29 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v182 : Index := Scalar.indexCast v40
  let c3584 : Index := 3584#32
  ![v182.toNat, 3584]
def k1_off30 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v187 : Index := Scalar.indexCast v40
  let c3712 : Index := 3712#32
  ![v187.toNat, 3712]
def k1_off31 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v192 : Index := Scalar.indexCast v40
  let c3840 : Index := 3840#32
  ![v192.toNat, 3840]
def k1_off32 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v197 : Index := Scalar.indexCast v40
  let c3968 : Index := 3968#32
  ![v197.toNat, 3968]
def k1_off33 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v202 : Index := Scalar.indexCast v40
  let c4096 : Index := 4096#32
  ![v202.toNat, 4096]
def k1_off34 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v207 : Index := Scalar.indexCast v40
  let c4224 : Index := 4224#32
  ![v207.toNat, 4224]
def k1_off35 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v212 : Index := Scalar.indexCast v40
  let c4352 : Index := 4352#32
  ![v212.toNat, 4352]
def k1_off36 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v217 : Index := Scalar.indexCast v40
  let c4480 : Index := 4480#32
  ![v217.toNat, 4480]
def k1_off37 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v222 : Index := Scalar.indexCast v40
  let c4608 : Index := 4608#32
  ![v222.toNat, 4608]
def k1_off38 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v227 : Index := Scalar.indexCast v40
  let c4736 : Index := 4736#32
  ![v227.toNat, 4736]
def k1_off39 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v232 : Index := Scalar.indexCast v40
  let c4864 : Index := 4864#32
  ![v232.toNat, 4864]
def k1_off40 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v237 : Index := Scalar.indexCast v40
  let c4992 : Index := 4992#32
  ![v237.toNat, 4992]
def k1_off41 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v242 : Index := Scalar.indexCast v40
  let c5120 : Index := 5120#32
  ![v242.toNat, 5120]
def k1_off42 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v247 : Index := Scalar.indexCast v40
  let c5248 : Index := 5248#32
  ![v247.toNat, 5248]
def k1_off43 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v252 : Index := Scalar.indexCast v40
  let c5376 : Index := 5376#32
  ![v252.toNat, 5376]
def k1_off44 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v257 : Index := Scalar.indexCast v40
  let c5504 : Index := 5504#32
  ![v257.toNat, 5504]
def k1_off45 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v262 : Index := Scalar.indexCast v40
  let c5632 : Index := 5632#32
  ![v262.toNat, 5632]
def k1_off46 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v267 : Index := Scalar.indexCast v40
  let c5760 : Index := 5760#32
  ![v267.toNat, 5760]
def k1_off47 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v272 : Index := Scalar.indexCast v40
  let c5888 : Index := 5888#32
  ![v272.toNat, 5888]
def k1_off48 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v277 : Index := Scalar.indexCast v40
  let c6016 : Index := 6016#32
  ![v277.toNat, 6016]
def k1_off49 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v282 : Index := Scalar.indexCast v40
  let c6144 : Index := 6144#32
  ![v282.toNat, 6144]
def k1_off50 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v287 : Index := Scalar.indexCast v40
  let c6272 : Index := 6272#32
  ![v287.toNat, 6272]
def k1_off51 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v292 : Index := Scalar.indexCast v40
  let c6400 : Index := 6400#32
  ![v292.toNat, 6400]
def k1_off52 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v297 : Index := Scalar.indexCast v40
  let c6528 : Index := 6528#32
  ![v297.toNat, 6528]
def k1_off53 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v302 : Index := Scalar.indexCast v40
  let c6656 : Index := 6656#32
  ![v302.toNat, 6656]
def k1_off54 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v307 : Index := Scalar.indexCast v40
  let c6784 : Index := 6784#32
  ![v307.toNat, 6784]
def k1_off55 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v312 : Index := Scalar.indexCast v40
  let c6912 : Index := 6912#32
  ![v312.toNat, 6912]
def k1_off56 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v317 : Index := Scalar.indexCast v40
  let c7040 : Index := 7040#32
  ![v317.toNat, 7040]
def k1_off57 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v322 : Index := Scalar.indexCast v40
  let c7168 : Index := 7168#32
  ![v322.toNat, 7168]
def k1_off58 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v327 : Index := Scalar.indexCast v40
  let c7296 : Index := 7296#32
  ![v327.toNat, 7296]
def k1_off59 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v332 : Index := Scalar.indexCast v40
  let c7424 : Index := 7424#32
  ![v332.toNat, 7424]
def k1_off60 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v337 : Index := Scalar.indexCast v40
  let c7552 : Index := 7552#32
  ![v337.toNat, 7552]
def k1_off61 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v342 : Index := Scalar.indexCast v40
  let c7680 : Index := 7680#32
  ![v342.toNat, 7680]
def k1_off62 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v347 : Index := Scalar.indexCast v40
  let c7808 : Index := 7808#32
  ![v347.toNat, 7808]
def k1_off63 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v352 : Index := Scalar.indexCast v40
  let c7936 : Index := 7936#32
  ![v352.toNat, 7936]
def k1_off64 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v357 : Index := Scalar.indexCast v40
  let c8064 : Index := 8064#32
  ![v357.toNat, 8064]
def k1_off65 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v362 : Index := Scalar.indexCast v40
  let c8192 : Index := 8192#32
  ![v362.toNat, 8192]
def k1_off66 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v367 : Index := Scalar.indexCast v40
  let c8320 : Index := 8320#32
  ![v367.toNat, 8320]
def k1_off67 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v372 : Index := Scalar.indexCast v40
  let c8448 : Index := 8448#32
  ![v372.toNat, 8448]
def k1_off68 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v377 : Index := Scalar.indexCast v40
  let c8576 : Index := 8576#32
  ![v377.toNat, 8576]
def k1_off69 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v382 : Index := Scalar.indexCast v40
  let c8704 : Index := 8704#32
  ![v382.toNat, 8704]
def k1_off70 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v387 : Index := Scalar.indexCast v40
  let c8832 : Index := 8832#32
  ![v387.toNat, 8832]
def k1_off71 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v392 : Index := Scalar.indexCast v40
  let c8960 : Index := 8960#32
  ![v392.toNat, 8960]
def k1_off72 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v397 : Index := Scalar.indexCast v40
  let c9088 : Index := 9088#32
  ![v397.toNat, 9088]
def k1_off73 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v402 : Index := Scalar.indexCast v40
  let c9216 : Index := 9216#32
  ![v402.toNat, 9216]
def k1_off74 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v407 : Index := Scalar.indexCast v40
  let c9344 : Index := 9344#32
  ![v407.toNat, 9344]
def k1_off75 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v412 : Index := Scalar.indexCast v40
  let c9472 : Index := 9472#32
  ![v412.toNat, 9472]
def k1_off76 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v417 : Index := Scalar.indexCast v40
  let c9600 : Index := 9600#32
  ![v417.toNat, 9600]
def k1_off77 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v422 : Index := Scalar.indexCast v40
  let c9728 : Index := 9728#32
  ![v422.toNat, 9728]
def k1_off78 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v427 : Index := Scalar.indexCast v40
  let c9856 : Index := 9856#32
  ![v427.toNat, 9856]
def k1_off79 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v432 : Index := Scalar.indexCast v40
  let c9984 : Index := 9984#32
  ![v432.toNat, 9984]
def k1_off80 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v437 : Index := Scalar.indexCast v40
  let c10112 : Index := 10112#32
  ![v437.toNat, 10112]
def k1_off81 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v442 : Index := Scalar.indexCast v40
  let c10240 : Index := 10240#32
  ![v442.toNat, 10240]
def k1_off82 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v447 : Index := Scalar.indexCast v40
  let c10368 : Index := 10368#32
  ![v447.toNat, 10368]
def k1_off83 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v452 : Index := Scalar.indexCast v40
  let c10496 : Index := 10496#32
  ![v452.toNat, 10496]
def k1_off84 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v457 : Index := Scalar.indexCast v40
  let c10624 : Index := 10624#32
  ![v457.toNat, 10624]
def k1_off85 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v462 : Index := Scalar.indexCast v40
  let c10752 : Index := 10752#32
  ![v462.toNat, 10752]
def k1_off86 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v467 : Index := Scalar.indexCast v40
  let c10880 : Index := 10880#32
  ![v467.toNat, 10880]
def k1_off87 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v472 : Index := Scalar.indexCast v40
  let c11008 : Index := 11008#32
  ![v472.toNat, 11008]
def k1_off88 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v477 : Index := Scalar.indexCast v40
  let c11136 : Index := 11136#32
  ![v477.toNat, 11136]
def k1_off89 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v482 : Index := Scalar.indexCast v40
  let c11264 : Index := 11264#32
  ![v482.toNat, 11264]
def k1_off90 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v487 : Index := Scalar.indexCast v40
  let c11392 : Index := 11392#32
  ![v487.toNat, 11392]
def k1_off91 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v492 : Index := Scalar.indexCast v40
  let c11520 : Index := 11520#32
  ![v492.toNat, 11520]
def k1_off92 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v497 : Index := Scalar.indexCast v40
  let c11648 : Index := 11648#32
  ![v497.toNat, 11648]
def k1_off93 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v502 : Index := Scalar.indexCast v40
  let c11776 : Index := 11776#32
  ![v502.toNat, 11776]
def k1_off94 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v507 : Index := Scalar.indexCast v40
  let c11904 : Index := 11904#32
  ![v507.toNat, 11904]
def k1_off95 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v512 : Index := Scalar.indexCast v40
  let c12032 : Index := 12032#32
  ![v512.toNat, 12032]
def k1_off96 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v517 : Index := Scalar.indexCast v40
  let c12160 : Index := 12160#32
  ![v517.toNat, 12160]
def k1_off97 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v522 : Index := Scalar.indexCast v40
  let c12288 : Index := 12288#32
  ![v522.toNat, 12288]
def k1_off98 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v527 : Index := Scalar.indexCast v40
  let c12416 : Index := 12416#32
  ![v527.toNat, 12416]
def k1_off99 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v532 : Index := Scalar.indexCast v40
  let c12544 : Index := 12544#32
  ![v532.toNat, 12544]
def k1_off100 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v537 : Index := Scalar.indexCast v40
  let c12672 : Index := 12672#32
  ![v537.toNat, 12672]
def k1_off101 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v542 : Index := Scalar.indexCast v40
  let c12800 : Index := 12800#32
  ![v542.toNat, 12800]
def k1_off102 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v547 : Index := Scalar.indexCast v40
  let c12928 : Index := 12928#32
  ![v547.toNat, 12928]
def k1_off103 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v552 : Index := Scalar.indexCast v40
  let c13056 : Index := 13056#32
  ![v552.toNat, 13056]
def k1_off104 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v557 : Index := Scalar.indexCast v40
  let c13184 : Index := 13184#32
  ![v557.toNat, 13184]
def k1_off105 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v562 : Index := Scalar.indexCast v40
  let c13312 : Index := 13312#32
  ![v562.toNat, 13312]
def k1_off106 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v567 : Index := Scalar.indexCast v40
  let c13440 : Index := 13440#32
  ![v567.toNat, 13440]
def k1_off107 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v572 : Index := Scalar.indexCast v40
  let c13568 : Index := 13568#32
  ![v572.toNat, 13568]
def k1_off108 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v577 : Index := Scalar.indexCast v40
  let c13696 : Index := 13696#32
  ![v577.toNat, 13696]
def k1_off109 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v582 : Index := Scalar.indexCast v40
  let c13824 : Index := 13824#32
  ![v582.toNat, 13824]
def k1_off110 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v587 : Index := Scalar.indexCast v40
  let c13952 : Index := 13952#32
  ![v587.toNat, 13952]
def k1_off111 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v592 : Index := Scalar.indexCast v40
  let c14080 : Index := 14080#32
  ![v592.toNat, 14080]
def k1_off112 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v597 : Index := Scalar.indexCast v40
  let c14208 : Index := 14208#32
  ![v597.toNat, 14208]
def k1_off113 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v602 : Index := Scalar.indexCast v40
  let c14336 : Index := 14336#32
  ![v602.toNat, 14336]
def k1_off114 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v607 : Index := Scalar.indexCast v40
  let c14464 : Index := 14464#32
  ![v607.toNat, 14464]
def k1_off115 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v612 : Index := Scalar.indexCast v40
  let c14592 : Index := 14592#32
  ![v612.toNat, 14592]
def k1_off116 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v617 : Index := Scalar.indexCast v40
  let c14720 : Index := 14720#32
  ![v617.toNat, 14720]
def k1_off117 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v622 : Index := Scalar.indexCast v40
  let c14848 : Index := 14848#32
  ![v622.toNat, 14848]
def k1_off118 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v627 : Index := Scalar.indexCast v40
  let c14976 : Index := 14976#32
  ![v627.toNat, 14976]
def k1_off119 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v632 : Index := Scalar.indexCast v40
  let c15104 : Index := 15104#32
  ![v632.toNat, 15104]
def k1_off120 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v637 : Index := Scalar.indexCast v40
  let c15232 : Index := 15232#32
  ![v637.toNat, 15232]
def k1_off121 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v642 : Index := Scalar.indexCast v40
  let c15360 : Index := 15360#32
  ![v642.toNat, 15360]
def k1_off122 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v647 : Index := Scalar.indexCast v40
  let c15488 : Index := 15488#32
  ![v647.toNat, 15488]
def k1_off123 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v652 : Index := Scalar.indexCast v40
  let c15616 : Index := 15616#32
  ![v652.toNat, 15616]
def k1_off124 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v657 : Index := Scalar.indexCast v40
  let c15744 : Index := 15744#32
  ![v657.toNat, 15744]
def k1_off125 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v662 : Index := Scalar.indexCast v40
  let c15872 : Index := 15872#32
  ![v662.toNat, 15872]
def k1_off126 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v667 : Index := Scalar.indexCast v40
  let c16000 : Index := 16000#32
  ![v667.toNat, 16000]
def k1_off127 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v672 : Index := Scalar.indexCast v40
  let c16128 : Index := 16128#32
  ![v672.toNat, 16128]
def k1_off128 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v677 : Index := Scalar.indexCast v40
  let c16256 : Index := 16256#32
  ![v677.toNat, 16256]
def k1_off129 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v688 : Index := Scalar.indexCast v40
  let c0_23 : Index := 0#32
  ![v688.toNat, 0]
def k1_off130 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v836 : Index := Scalar.indexCast v40
  let c0_64 : Index := 0#32
  ![v836.toNat, 0]
def k1_off131 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v980 : Index := Scalar.indexCast v40
  let c128_105 : Index := 128#32
  ![v980.toNat, 128]
def k1_off132 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v1124 : Index := Scalar.indexCast v40
  let c256_146 : Index := 256#32
  ![v1124.toNat, 256]
def k1_off133 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v1268 : Index := Scalar.indexCast v40
  let c384_187 : Index := 384#32
  ![v1268.toNat, 384]
def k1_off134 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v1412 : Index := Scalar.indexCast v40
  let c512_228 : Index := 512#32
  ![v1412.toNat, 512]
def k1_off135 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v1556 : Index := Scalar.indexCast v40
  let c640_269 : Index := 640#32
  ![v1556.toNat, 640]
def k1_off136 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v1700 : Index := Scalar.indexCast v40
  let c768_310 : Index := 768#32
  ![v1700.toNat, 768]
def k1_off137 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v1844 : Index := Scalar.indexCast v40
  let c896_351 : Index := 896#32
  ![v1844.toNat, 896]
def k1_off138 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v1988 : Index := Scalar.indexCast v40
  let c1024_392 : Index := 1024#32
  ![v1988.toNat, 1024]
def k1_off139 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v2132 : Index := Scalar.indexCast v40
  let c1152_433 : Index := 1152#32
  ![v2132.toNat, 1152]
def k1_off140 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v2276 : Index := Scalar.indexCast v40
  let c1280_474 : Index := 1280#32
  ![v2276.toNat, 1280]
def k1_off141 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v2420 : Index := Scalar.indexCast v40
  let c1408_515 : Index := 1408#32
  ![v2420.toNat, 1408]
def k1_off142 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v2564 : Index := Scalar.indexCast v40
  let c1536_556 : Index := 1536#32
  ![v2564.toNat, 1536]
def k1_off143 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v2708 : Index := Scalar.indexCast v40
  let c1664_597 : Index := 1664#32
  ![v2708.toNat, 1664]
def k1_off144 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v2852 : Index := Scalar.indexCast v40
  let c1792_638 : Index := 1792#32
  ![v2852.toNat, 1792]
def k1_off145 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v2996 : Index := Scalar.indexCast v40
  let c1920_679 : Index := 1920#32
  ![v2996.toNat, 1920]
def k1_off146 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v3140 : Index := Scalar.indexCast v40
  let c2048_720 : Index := 2048#32
  ![v3140.toNat, 2048]
def k1_off147 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v3284 : Index := Scalar.indexCast v40
  let c2176_761 : Index := 2176#32
  ![v3284.toNat, 2176]
def k1_off148 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v3428 : Index := Scalar.indexCast v40
  let c2304_802 : Index := 2304#32
  ![v3428.toNat, 2304]
def k1_off149 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v3572 : Index := Scalar.indexCast v40
  let c2432_843 : Index := 2432#32
  ![v3572.toNat, 2432]
def k1_off150 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v3716 : Index := Scalar.indexCast v40
  let c2560_884 : Index := 2560#32
  ![v3716.toNat, 2560]
def k1_off151 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v3860 : Index := Scalar.indexCast v40
  let c2688_925 : Index := 2688#32
  ![v3860.toNat, 2688]
def k1_off152 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v4004 : Index := Scalar.indexCast v40
  let c2816_966 : Index := 2816#32
  ![v4004.toNat, 2816]
def k1_off153 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v4148 : Index := Scalar.indexCast v40
  let c2944_1007 : Index := 2944#32
  ![v4148.toNat, 2944]
def k1_off154 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v4292 : Index := Scalar.indexCast v40
  let c3072_1048 : Index := 3072#32
  ![v4292.toNat, 3072]
def k1_off155 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v4436 : Index := Scalar.indexCast v40
  let c3200_1089 : Index := 3200#32
  ![v4436.toNat, 3200]
def k1_off156 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v4580 : Index := Scalar.indexCast v40
  let c3328_1130 : Index := 3328#32
  ![v4580.toNat, 3328]
def k1_off157 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v4724 : Index := Scalar.indexCast v40
  let c3456_1171 : Index := 3456#32
  ![v4724.toNat, 3456]
def k1_off158 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v4868 : Index := Scalar.indexCast v40
  let c3584_1212 : Index := 3584#32
  ![v4868.toNat, 3584]
def k1_off159 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v5012 : Index := Scalar.indexCast v40
  let c3712_1253 : Index := 3712#32
  ![v5012.toNat, 3712]
def k1_off160 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v5156 : Index := Scalar.indexCast v40
  let c3840_1294 : Index := 3840#32
  ![v5156.toNat, 3840]
def k1_off161 (k1_t1 : Fin k1_t1_loop.trips) : Fin 2 → Nat :=
  let c0_i32 : BitVec 32 := 0#32
  let c1_i32_2 : BitVec 32 := 1#32
  let arg9 : BitVec 32 := Scf.iv c0_i32 c1_i32_2 k1_t1
  let c32_i32 : BitVec 32 := 32#32
  let v40 : BitVec 32 := Scalar.muli arg9 c32_i32
  let v5300 : Index := Scalar.indexCast v40
  let c3968_1335 : Index := 3968#32
  ![v5300.toNat, 3968]
@[reducible] def k1_t2_loop : Scf.Loop 32 :=
  let c0_i32_5 : BitVec 32 := 0#32
  let c8_i32_6 : BitVec 32 := 8#32
  let v21 : BitVec 32 := Scalar.addi c0_i32_5 c8_i32_6
  let c1_i32_7 : BitVec 32 := 1#32
  ⟨c0_i32_5, v21, c1_i32_7⟩
def k1_off162 (k1_t2 : Fin k1_t2_loop.trips) : Fin 2 → Nat :=
  let c0_20 : Index := 0#32
  let c0_i32_5 : BitVec 32 := 0#32
  let c1_i32_7 : BitVec 32 := 1#32
  let arg9 : BitVec 32 := Scf.iv c0_i32_5 c1_i32_7 k1_t2
  let c2048_i32 : BitVec 32 := 2048#32
  let v40 : BitVec 32 := Scalar.muli arg9 c2048_i32
  let v42 : Index := Scalar.indexCast v40
  ![0, v42.toNat]
def k1_off163 (k1_t2 : Fin k1_t2_loop.trips) : Fin 2 → Nat :=
  let c0_21 : Index := 0#32
  let c0_i32_5 : BitVec 32 := 0#32
  let c1_i32_7 : BitVec 32 := 1#32
  let arg9 : BitVec 32 := Scf.iv c0_i32_5 c1_i32_7 k1_t2
  let c2048_i32 : BitVec 32 := 2048#32
  let v40 : BitVec 32 := Scalar.muli arg9 c2048_i32
  let v46 : Index := Scalar.indexCast v40
  ![0, v46.toNat]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x16384 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x16384 .i8 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x4096 .i8 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== ReferenceIdeal.lean ====
abbrev S2x512x16384 : Shape := ⟨3, ![2, 512, 16384]⟩
abbrev S5120x16384 : Shape := ⟨2, ![5120, 16384]⟩
abbrev S2x512 : Shape := ⟨2, ![2, 512]⟩
abbrev S5120 : Shape := ⟨1, ![5120]⟩
abbrev S5120x1 : Shape := ⟨2, ![5120, 1]⟩
abbrev S2x512x1 : Shape := ⟨3, ![2, 512, 1]⟩
abbrev S2x512x5120 : Shape := ⟨3, ![2, 512, 5120]⟩
abbrev S1x1x5120 : Shape := ⟨3, ![1, 1, 5120]⟩
abbrev S_ : Shape := ⟨0, ![]⟩
abbrev S5120x4096x4 : Shape := ⟨3, ![5120, 4096, 4]⟩
abbrev S5120x4096x1 : Shape := ⟨3, ![5120, 4096, 1]⟩
abbrev S5120x4096 : Shape := ⟨2, ![5120, 4096]⟩

abbrev nBuf : Space → Nat
  | .hbm => 41
  | .vmem => 8
  | .smem => 0
  | _ => 0

abbrev bufTy : (tb : Table) → Fin (tcTables nBuf tb) → BufTy
  | .hbm, ⟨0, _⟩ => ⟨S2x512x16384, .bf16⟩
  | .hbm, ⟨1, _⟩ => ⟨S5120x16384, .bf16⟩
  | .hbm, ⟨2, _⟩ => ⟨S2x512x16384, .i8⟩
  | .hbm, ⟨3, _⟩ => ⟨S2x512, .f32⟩
  | .hbm, ⟨4, _⟩ => ⟨S2x512x16384, .bf16⟩
  | .hbm, ⟨5, _⟩ => ⟨S5120x16384, .i32⟩
  | .hbm, ⟨6, _⟩ => ⟨S5120, .f32⟩
  | .hbm, ⟨7, _⟩ => ⟨S5120x16384, .bf16⟩
  | .hbm, ⟨8, _⟩ => ⟨S2x512x5120, .f32⟩
  | .hbm, ⟨9, _⟩ => ⟨S2x512x1, .f32⟩
  | .hbm, ⟨10, _⟩ => ⟨S2x512x5120, .f32⟩
  | .hbm, ⟨11, _⟩ => ⟨S2x512x5120, .f32⟩
  | .hbm, ⟨12, _⟩ => ⟨S1x1x5120, .f32⟩
  | .hbm, ⟨13, _⟩ => ⟨S2x512x5120, .f32⟩
  | .hbm, ⟨14, _⟩ => ⟨S2x512x5120, .f32⟩
  | .hbm, ⟨15, _⟩ => ⟨S2x512x5120, .bf16⟩
  | .hbm, ⟨16, _⟩ => ⟨S_, .i32⟩
  | .hbm, ⟨17, _⟩ => ⟨S5120x16384, .i32⟩
  | .hbm, ⟨18, _⟩ => ⟨S5120x16384, .i32⟩
  | .hbm, ⟨19, _⟩ => ⟨S5120x4096x4, .i32⟩
  | .hbm, ⟨20, _⟩ => ⟨S5120x4096x1, .i32⟩
  | .hbm, ⟨21, _⟩ => ⟨S5120x4096, .i32⟩
  | .hbm, ⟨22, _⟩ => ⟨S5120x4096x1, .i32⟩
  | .hbm, ⟨23, _⟩ => ⟨S5120x4096, .i32⟩
  | .hbm, ⟨24, _⟩ => ⟨S_, .i32⟩
  | .hbm, ⟨25, _⟩ => ⟨S5120x4096, .i32⟩
  | .hbm, ⟨26, _⟩ => ⟨S5120x4096, .i32⟩
  | .hbm, ⟨27, _⟩ => ⟨S5120x4096, .i32⟩
  | .hbm, ⟨28, _⟩ => ⟨S5120x4096x1, .i32⟩
  | .hbm, ⟨29, _⟩ => ⟨S5120x4096, .i32⟩
  | .hbm, ⟨30, _⟩ => ⟨S_, .i32⟩
  | .hbm, ⟨31, _⟩ => ⟨S5120x4096, .i32⟩
  | .hbm, ⟨32, _⟩ => ⟨S5120x4096, .i32⟩
  | .hbm, ⟨33, _⟩ => ⟨S5120x4096, .i32⟩
  | .hbm, ⟨34, _⟩ => ⟨S5120x4096x1, .i32⟩
  | .hbm, ⟨35, _⟩ => ⟨S5120x4096, .i32⟩
  | .hbm, ⟨36, _⟩ => ⟨S_, .i32⟩
  | .hbm, ⟨37, _⟩ => ⟨S5120x4096, .i32⟩
  | .hbm, ⟨38, _⟩ => ⟨S5120x4096, .i32⟩
  | .hbm, ⟨39, _⟩ => ⟨S5120x4096, .i32⟩
  | .hbm, ⟨40, _⟩ => ⟨S5120x4096, .i8⟩
  | .local _ .vmem, ⟨0, _⟩ => ⟨S2x512x16384, .bf16⟩
  | .local _ .vmem, ⟨1, _⟩ => ⟨S5120x16384, .bf16⟩
  | .local _ .vmem, ⟨2, _⟩ => ⟨S2x512x16384, .i8⟩
  | .local _ .vmem, ⟨3, _⟩ => ⟨S2x512, .f32⟩
  | .local _ .vmem, ⟨4, _⟩ => ⟨S2x512x16384, .bf16⟩
  | .local _ .vmem, ⟨5, _⟩ => ⟨S5120x16384, .i32⟩
  | .local _ .vmem, ⟨6, _⟩ => ⟨S5120, .f32⟩
  | .local _ .vmem, ⟨7, _⟩ => ⟨S5120x16384, .bf16⟩
  | _, _ => ⟨S2x512x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev main_v0_5 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S2x512x16384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x16384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x16384 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x512x16384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5120x16384 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S5120 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S5120x16384 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Vals.lean ====
module

public import proofs.«01_k».proof.Proof.Gen.KernelIdeal.Loops
public import Idealize.ShloMosaic.Lib.Pipeline.FrameBody
public import Idealize.ShloMosaic.Lib.Pipeline.Value
public import Idealize.ShloMosaic.Lib.Pipeline.ReadBack
public import Idealize.ShloMosaic.Lib.Pipeline.ValueKit.Geometry

/-! What one trip of the weight kernel's slab loop stores, in one vocabulary: the slab's gamma, its ternary
    values and its packed bytes, each written once, and the printed stores identified with them. -/

@[expose] public section
set_option maxRecDepth 65536
set_option maxHeartbeats 4000000
noncomputable section

namespace Cert.KernelIdeal.Run
open Cert.KernelIdeal Cert.KernelIdeal.Gen
open Idealize.ShloMosaic Idealize.SL.Sem

variable {F : FTy → Type} [FloatOps F] [Cert.KernelIdeal.Facts]

/-- The slab loop makes eight trips. -/
theorem trips1_eq : k1_t1_loop.trips = 8 := by decide +kernel

/-- Slab `k` starts at row `32 k`. -/
theorem off1_row : ∀ k : Fin k1_t1_loop.trips, k1_off1 k 0 = 32 * k.val := by decide +kernel

/-- Where chunk `c` (128 columns) of slab `k` (32 rows) starts. -/
def offc (k : Fin k1_t1_loop.trips) (c : Fin 128) : Fin 2 → ℕ := ![k1_off1 k 0, 128 * c.val]

/-- A chunk of a slab lies inside the weight block. -/
theorem offc_inb (k : Fin k1_t1_loop.trips) (c : Fin 128) (a : Fin 2) : offc k c a + S32x128.size a ≤ S256x16384.size a := by
  have hk : k.val < 8 := lt_of_lt_of_eq k.isLt trips1_eq

  have h0 := off1_row k
  have hc := c.isLt
  match a with
  | 0 => show k1_off1 k 0 + 32 ≤ 256; omega
  | 1 => show 128 * c.val + 128 ≤ 16384; omega

/-- Chunk `c` of slab `k` of the weight block. -/
def wl (X : Vec F S256x16384 .bf16) (k : Fin k1_t1_loop.trips) (c : Fin 128) : Vec F S32x128 .bf16 :=
  View.ld X (Rect.unit (s := S256x16384) (offc k c) S32x128.size (offc_inb k c))

/-- The sum of the magnitudes of the first `n` chunks of slab `k`, lane by lane. -/
def part (X : Vec F S256x16384 .bf16) (k : Fin k1_t1_loop.trips) : ℕ → FVec F S32x128 .f32
  | 0 => broadcast S32x128 (Scalar.ofBits .f32 0x00000000#32)
  | n + 1 => addf (part X k n) (absf (extf .f32 (wl X k (Fin.ofNat 128 n)) bitsLt_bf16_f32))

/-- The gamma of each row of slab `k`: the mean magnitude of the row. -/
def gam (X : Vec F S256x16384 .bf16) (k : Fin k1_t1_loop.trips) : FVec F S32x1 .f32 :=
  mulf (shapeCast S32x1 (multiReduction .add [1] S32 (part X k 128) 0x00000000#32 reduces_S32x128_S32 (.inl rfl) rfl) shapeCasts_S32_S32x1)
    (broadcast S32x1 (Scalar.ofBits .f32 0x38800000#32))

/-- The ternary values of a chunk as 32-bit floats, from the slab's gamma. -/
def tfv (g : FVec F S32x1 .f32) (w : Vec F S32x128 .bf16) : FVec F S32x128 .f32 := k1_pay25 (k1_pay17 g) w

/-- The ternary values of a chunk as stored. -/
def tbv (g : FVec F S32x1 .f32) (w : Vec F S32x128 .bf16) : FVec F S32x128 .bf16 :=
  shapeCast S32x128 (truncf .bf16 (tfv g w) bitsLt_bf16_f32) shapeCasts_S32x128_S32x128

/-- The two-bit codes of a chunk, four rows to a word. -/
def cdv (g : FVec F S32x1 .f32) (w : Vec F S32x128 .bf16) : IVec S8x128 32 := k1_pay27 (k1_pay17 g) w

/-- A lane shuffle. -/
def shufv (o : IVec S8x128 32) (x : IVec S8x128 32) : IVec S8x128 32 :=
  dynamicGather 1 x (shapeCast S8x128 (shapeCast S8x128x1
    (select (cmpi .slt o (broadcast S8x128 0#32)) (addi o (broadcast S8x128 128#32)) o) shapeCasts_S8x128_S8x128x1) shapeCasts_S8x128x1_S8x128)

/-- One merging step of the packing. -/
def mergev (m : IVec S8x128 1) (o : IVec S8x128 32) (a b : IVec S8x128 32) : IVec S8x128 32 :=
  ori (select m a b) (shufv o (select m b a))

/-- The packed bytes of four chunks, from their codes. -/
def packv (v0 : IVec S8x128 32) (a b c d : IVec S8x128 32) : IVec S32x128 8 :=
  bitcast S32x128 8 (shufv k1_pay702 (mergev (k1_pay32 v0) k1_pay701
    (mergev (k1_pay31 v0) k1_pay700 (shli a k1_pay699) (shli b k1_pay699))
    (mergev (k1_pay31 v0) k1_pay700 (shli c k1_pay699) (shli d k1_pay699)))) bitcasts_S8x128_w32_S32x128_w8

/-- A function on a grid of 32-row, 128-column tiles, read at an index of the whole. -/
def tiled {N : ℕ} {α : Type} (T : Fin k1_t1_loop.trips → ℕ → S32x128.Idx → α) (y : (⟨2, ![256, N]⟩ : Shape).Idx) : α :=
  T ⟨(y 0).val / 32, by rw [trips1_eq]; have := (y 0).isLt; change (y 0).val < 256 at this; omega⟩ ((y 1).val / 128)
    (fun a => match a with
      | 0 => ⟨(y 0).val % 32, by show _ < 32; omega⟩
      | 1 => ⟨(y 1).val % 128, by show _ < 128; omega⟩)

/-- At the tile that starts at row `32 k` and at a multiple of 128 columns, it is that tile's function. -/
theorem tiled_emb {N : ℕ} {α : Type} (T : Fin k1_t1_loop.trips → ℕ → S32x128.Idx → α) (k : Fin k1_t1_loop.trips) {n : ℕ}
    {off : Fin 2 → ℕ} {inb : ∀ a, off a + S32x128.size a ≤ (⟨2, ![256, N]⟩ : Shape).size a} (h0 : off = ![k1_off1 k 0, n])
    (h1 : n % 128 = 0) (x : S32x128.Idx) :
    tiled T ((Rect.unit (s := ⟨2, ![256, N]⟩) off S32x128.size inb).emb x) = T k (n / 128) x := by
  have e0 := ValueKit.rect_emb_unit_val (s := ⟨2, ![256, N]⟩) off S32x128.size inb x 0
  have e1 := ValueKit.rect_emb_unit_val (s := ⟨2, ![256, N]⟩) off S32x128.size inb x 1
  have l0 : (x 0).val < 32 := (x 0).isLt
  have l1 : (x 1).val < 128 := (x 1).isLt
  have f0 : off 0 = 32 * k.val := (congrFun h0 0).trans (off1_row k)
  have f1 : off 1 = n := congrFun h0 1
  rw [f0] at e0
  rw [f1] at e1
  unfold tiled
  refine congr (congr (congrArg T ?_) ?_) ?_
  · exact Fin.ext (by show _ / 32 = _; rw [e0]; omega)
  · rw [e1]; omega
  · funext a
    match a with
    | 0 => exact Fin.ext (by show _ % 32 = _; rw [e0]; omega)
    | 1 => exact Fin.ext (by show _ % 128 = _; rw [e1]; omega)

/-- A store of a tile of a tiled function, in front of other such stores. -/
theorem piecesOf_tile {N : ℕ} {e : EltTy} {T : Fin k1_t1_loop.trips → ℕ → S32x128.Idx → Elt F e} (k : Fin k1_t1_loop.trips) {n : ℕ}
    {off : Fin 2 → ℕ} {inb : ∀ a, off a + S32x128.size a ≤ (⟨2, ![256, N]⟩ : Shape).size a} {p : S32x128.Idx → Elt F e}
    {L : List (View.Piece (Elt F) (⟨2, ![256, N]⟩ : Shape) e)} (h0 : off = ![k1_off1 k 0, n])
    (h1 : n % 128 = 0) (hp : p = T k (n / 128)) (hL : View.PiecesOf (Val := Elt F) (tiled T) L) :
    View.PiecesOf (Val := Elt F) (tiled T) (⟨Rect.unit (s := ⟨2, ![256, N]⟩) off S32x128.size inb, p⟩ :: L) :=
  ⟨fun x => (congrFun hp x).trans (tiled_emb (inb := inb) T k h0 h1 x).symm, hL⟩

/-- The stores of `L` cover the first `n` chunks of slab `k`. -/
def CoverTo {N : ℕ} {e : EltTy} (k : Fin k1_t1_loop.trips) (n : ℕ) (L : List (View.Piece (Elt F) (⟨2, ![256, N]⟩ : Shape) e)) : Prop :=
  ∀ y : (⟨2, ![256, N]⟩ : Shape).Idx, (y 0).val / 32 = k.val → (y 1).val < 128 * n → ∃ p ∈ L, y ∈ p.1.set

/-- No store covers no chunk. -/
theorem coverTo_nil {N : ℕ} {e : EltTy} (k : Fin k1_t1_loop.trips) : CoverTo (F := F) (N := N) (e := e) k 0 [] :=
  fun _ _ h => absurd h (by omega)

/-- A store of the next chunk covers one chunk more. -/
theorem coverTo_cons {N : ℕ} {e : EltTy} (k : Fin k1_t1_loop.trips) {n : ℕ}
    {off : Fin 2 → ℕ} {inb : ∀ a, off a + S32x128.size a ≤ (⟨2, ![256, N]⟩ : Shape).size a} {p : S32x128.Idx → Elt F e}
    {L : List (View.Piece (Elt F) (⟨2, ![256, N]⟩ : Shape) e)} (h0 : off = ![k1_off1 k 0, 128 * n])
    (hL : CoverTo k n L) : CoverTo k (n + 1) (⟨Rect.unit (s := ⟨2, ![256, N]⟩) off S32x128.size inb, p⟩ :: L) := by
  intro y hy0 hy1
  by_cases hc : (y 1).val < 128 * n
  · obtain ⟨q, hq, hyq⟩ := hL y hy0 hc
    exact ⟨q, List.mem_cons_of_mem _ hq, hyq⟩
  · refine ⟨_, List.mem_cons_self, ?_⟩
    have f0 : off 0 = 32 * k.val := (congrFun h0 0).trans (off1_row k)
    have f1 : off 1 = 128 * n := congrFun h0 1
    show y ∈ (Rect.unit (s := ⟨2, ![256, N]⟩) off S32x128.size inb).set
    rw [Rect.mem_set_unit]
    intro a
    match a with
    | 0 => show off 0 ≤ (y 0).val ∧ (y 0).val < off 0 + 32; rw [f0]; omega
    | 1 => show off 1 ≤ (y 1).val ∧ (y 1).val < off 1 + 128; rw [f1]; omega

/-- Stores that are pieces of a function, after other such stores. -/
theorem piecesOf_append {S : Shape} {e : EltTy} {G : S.Idx → Elt F e} : ∀ {L L' : List (View.Piece (Elt F) S e)},
    View.PiecesOf G L → View.PiecesOf G L' → View.PiecesOf G (L ++ L')
  | [], _, _, h' => h'
  | _ :: _, _, h, h' => ⟨h.1, piecesOf_append h.2 h'⟩

/-- The ternary values of the whole weight block. -/
def tB (X : Vec F S256x16384 .bf16) : Vec F S256x16384 .bf16 :=
  tiled fun k c x => tbv (gam X k) (wl X k (Fin.ofNat 128 c)) x

/-- The packed bytes of the whole weight block. -/
def wpB (v0 : IVec S8x128 32) (X : Vec F S256x16384 .bf16) : Vec F S256x4096 .i8 :=
  tiled fun k c x => packv v0 (cdv (gam X k) (wl X k (Fin.ofNat 128 (4 * c)))) (cdv (gam X k) (wl X k (Fin.ofNat 128 (4 * c + 1))))
    (cdv (gam X k) (wl X k (Fin.ofNat 128 (4 * c + 2)))) (cdv (gam X k) (wl X k (Fin.ofNat 128 (4 * c + 3)))) x

/-- The gamma block: each row's gamma in all 128 lanes. -/
def gB (X : Vec F S256x16384 .bf16) : Vec F S256x128 .f32 :=
  tiled fun k _ x => broadcastTo S32x128 (shapeCast S32x1 (gam X k) shapeCasts_S32x1_S32x1) broadcasts_S32x1_S32x128 x

section Trip
variable (𝒱 : Variants) (c : Dev nD) (bd : Option 𝒱.V) (i : grid1.Coords) (arg1 : Memref sig .tc .vmem S256x16384 .bf16) (harg1 : arg1.IsWhole) (arg2 : Memref sig .tc .vmem S1024x16384 .i8) (harg2 : arg2.IsWhole) (arg3 : Memref sig .tc .vmem S1024x128 .f32) (harg3 : arg3.IsWhole) (arg4 : Memref sig .tc .vmem S1024x256 .bf16) (harg4 : arg4.IsWhole) (arg5 : Memref sig .tc .vmem S256x4096 .i8) (harg5 : arg5.IsWhole) (arg6 : Memref sig .tc .vmem S256x128 .f32) (harg6 : arg6.IsWhole) (arg7 : Memref sig .tc .vmem S256x16384 .bf16) (harg7 : arg7.IsWhole) (arg8 : Memref sig .tc .vmem S1024x256 .f32) (harg8 : arg8.IsWhole)
  (v0 : IVec S8x128 32) (X : BufTy.Contents (Elt F) arg1.view.ty) (k : Fin k1_t1_loop.trips)

open trip_k1_t1

/-- The slab's gamma, as the trip computes it. -/
theorem r_12_eq : sl.r_12 (F := F) arg1 X k = gam (arg1.view.read (Elt F) X) k := by
  rfl

/-- Every store of the trip into the ternary scratch is a tile of `tB`. -/
theorem pieces7 : View.PiecesOf (tB (arg1.view.read (Elt F) X))
    (trip_k1_t1 (F := F) 𝒱 c bd i arg1 harg1 arg2 harg2 arg3 harg3 arg4 harg4 arg5 harg5 arg6 harg6 arg7 harg7 arg8 harg8 v0 X k).2.2.1 := by
  unfold trip_k1_t1
  dsimp only
  unfold tB
  simp only [← r_12_eq]
  repeat refine piecesOf_tile k rfl rfl rfl ?_
  exact trivial

/-- Every store of the trip into the packed block is a tile of `wpB`. -/
theorem pieces5 : View.PiecesOf (wpB v0 (arg1.view.read (Elt F) X))
    (trip_k1_t1 (F := F) 𝒱 c bd i arg1 harg1 arg2 harg2 arg3 harg3 arg4 harg4 arg5 harg5 arg6 harg6 arg7 harg7 arg8 harg8 v0 X k).1 := by
  unfold trip_k1_t1
  dsimp only
  unfold wpB
  simp only [← r_12_eq]
  repeat refine piecesOf_tile k rfl rfl rfl ?_
  exact trivial

/-- The trip's store into the gamma block is a tile of `gB`. -/
theorem pieces6 : View.PiecesOf (gB (arg1.view.read (Elt F) X))
    (trip_k1_t1 (F := F) 𝒱 c bd i arg1 harg1 arg2 harg2 arg3 harg3 arg4 harg4 arg5 harg5 arg6 harg6 arg7 harg7 arg8 harg8 v0 X k).2.1 := by
  unfold trip_k1_t1
  dsimp only
  unfold gB
  simp only [← r_12_eq]
  refine piecesOf_tile (F := F) (n := 0) (off := k1_off129 k) k rfl rfl rfl ?_
  exact trivial

/-- The trip's stores into the ternary scratch cover its slab. -/
theorem cover7 : CoverTo k 128
    (trip_k1_t1 (F := F) 𝒱 c bd i arg1 harg1 arg2 harg2 arg3 harg3 arg4 harg4 arg5 harg5 arg6 harg6 arg7 harg7 arg8 harg8 v0 X k).2.2.1 := by
  unfold trip_k1_t1
  dsimp only
  repeat refine coverTo_cons k rfl ?_
  exact coverTo_nil k

/-- The trip's stores into the packed block cover its slab. -/
theorem cover5 : CoverTo k 32
    (trip_k1_t1 (F := F) 𝒱 c bd i arg1 harg1 arg2 harg2 arg3 harg3 arg4 harg4 arg5 harg5 arg6 harg6 arg7 harg7 arg8 harg8 v0 X k).1 := by
  unfold trip_k1_t1
  dsimp only
  repeat refine coverTo_cons k rfl ?_
  exact coverTo_nil k

/-- The trip's store into the gamma block covers its slab. -/
theorem cover6 : CoverTo k 1
    (trip_k1_t1 (F := F) 𝒱 c bd i arg1 harg1 arg2 harg2 arg3 harg3 arg4 harg4 arg5 harg5 arg6 harg6 arg7 harg7 arg8 harg8 v0 X k).2.1 := by
  unfold trip_k1_t1
  dsimp only
  repeat refine coverTo_cons k rfl ?_
  exact coverTo_nil k

/-- The stores of the trips before `j` are pieces of the three block functions, and cover the first `j` slabs. -/
theorem pb1_ok : ∀ j : ℕ, j ≤ 8 →
    let L := pb_k1_t1 (F := F) 𝒱 c bd i arg1 harg1 arg2 harg2 arg3 harg3 arg4 harg4 arg5 harg5 arg6 harg6 arg7 harg7 arg8 harg8 v0 X j
    (View.PiecesOf (wpB v0 (arg1.view.read (Elt F) X)) L.1 ∧ ∀ y : S256x4096.Idx, (y 0).val < 32 * j → ∃ p ∈ L.1, y ∈ p.1.set)
    ∧ (View.PiecesOf (gB (arg1.view.read (Elt F) X)) L.2.1 ∧ ∀ y : S256x128.Idx, (y 0).val < 32 * j → ∃ p ∈ L.2.1, y ∈ p.1.set)
    ∧ (View.PiecesOf (tB (arg1.view.read (Elt F) X)) L.2.2 ∧ ∀ y : S256x16384.Idx, (y 0).val < 32 * j → ∃ p ∈ L.2.2, y ∈ p.1.set)
  | 0, _ => ⟨⟨trivial, fun _ h => absurd h (by omega)⟩, ⟨trivial, fun _ h => absurd h (by omega)⟩, ⟨trivial, fun _ h => absurd h (by omega)⟩⟩
  | j + 1, hj => by
    have hj' : j < k1_t1_loop.trips := lt_of_lt_of_eq (by omega) trips1_eq.symm
    obtain ⟨⟨a1, a2⟩, ⟨b1, b2⟩, ⟨c1, c2⟩⟩ := pb1_ok j (by omega)
    have e := pb_k1_t1_succ (F := F) 𝒱 c bd i arg1 harg1 arg2 harg2 arg3 harg3 arg4 harg4 arg5 harg5 arg6 harg6 arg7 harg7 arg8 harg8 v0 X ⟨j, hj'⟩
    dsimp only at e ⊢
    rw [e]
    dsimp only
    refine ⟨⟨piecesOf_append (pieces5 𝒱 c bd i arg1 harg1 arg2 harg2 arg3 harg3 arg4 harg4 arg5 harg5 arg6 harg6 arg7 harg7 arg8 harg8 v0 X ⟨j, hj'⟩) a1, fun y hy => ?_⟩,
      ⟨piecesOf_append (pieces6 𝒱 c bd i arg1 harg1 arg2 harg2 arg3 harg3 arg4 harg4 arg5 harg5 arg6 harg6 arg7 harg7 arg8 harg8 v0 X ⟨j, hj'⟩) b1, fun y hy => ?_⟩,
      ⟨piecesOf_append (pieces7 𝒱 c bd i arg1 harg1 arg2 harg2 arg3 harg3 arg4 harg4 arg5 harg5 arg6 harg6 arg7 harg7 arg8 harg8 v0 X ⟨j, hj'⟩) c1, fun y hy => ?_⟩⟩
    · by_cases h : (y 0).val < 32 * j
      · obtain ⟨p, hp, hyp⟩ := a2 y h; exact ⟨p, List.mem_append_right _ hp, hyp⟩
      · obtain ⟨p, hp, hyp⟩ := cover5 𝒱 c bd i arg1 harg1 arg2 harg2 arg3 harg3 arg4 harg4 arg5 harg5 arg6 harg6 arg7 harg7 arg8 harg8 v0 X ⟨j, hj'⟩ y (by show _ = j; omega) (y 1).isLt
        exact ⟨p, List.mem_append_left _ hp, hyp⟩
    · by_cases h : (y 0).val < 32 * j
      · obtain ⟨p, hp, hyp⟩ := b2 y h; exact ⟨p, List.mem_append_right _ hp, hyp⟩
      · obtain ⟨p, hp, hyp⟩ := cover6 𝒱 c bd i arg1 harg1 arg2 harg2 arg3 harg3 arg4 harg4 arg5 harg5 arg6 harg6 arg7 harg7 arg8 harg8 v0 X ⟨j, hj'⟩ y (by show _ = j; omega) (y 1).isLt
        exact ⟨p, List.mem_append_left _ hp, hyp⟩
    · by_cases h : (y 0).val < 32 * j
      · obtain ⟨p, hp, hyp⟩ := c2 y h; exact ⟨p, List.mem_append_right _ hp, hyp⟩
      · obtain ⟨p, hp, hyp⟩ := cover7 𝒱 c bd i arg1 harg1 arg2 harg2 arg3 harg3 arg4 harg4 arg5 harg5 arg6 harg6 arg7 harg7 arg8 harg8 v0 X ⟨j, hj'⟩ y (by show _ = j; omega) (y 1).isLt
        exact ⟨p, List.mem_append_left _ hp, hyp⟩

/-- Covering pieces of a function, written over anything, read back as the function. -/
theorem read_pieces {κ : Kind} {sp : Space} {S : Shape} {e : EltTy} (v : View sig κ sp S e) (f : v.ty.Contents (Elt F))
    (G : S.Idx → Elt F e) (L : List (View.Piece (Elt F) S e)) (h : View.PiecesOf G L) (hc : ∀ y, ∃ p ∈ L, y ∈ p.1.set) :
    v.read (Elt F) (v.writes (Elt F) f L) = G :=
  (View.read_writes_eq_canon v f L hc).trans (funext fun y => View.canon_apply_of_pieces G L h.mem y (hc y))

/-- What the slab loop leaves in the packed block. -/
theorem read5 (f : BufTy.Contents (Elt F) arg5.view.ty) : arg5.view.read (Elt F) (arg5.view.writes (Elt F) f
    (pb_k1_t1 (F := F) 𝒱 c bd i arg1 harg1 arg2 harg2 arg3 harg3 arg4 harg4 arg5 harg5 arg6 harg6 arg7 harg7 arg8 harg8 v0 X k1_t1_loop.trips).1)
    = wpB v0 (arg1.view.read (Elt F) X) := by
  have h := (pb1_ok 𝒱 c bd i arg1 harg1 arg2 harg2 arg3 harg3 arg4 harg4 arg5 harg5 arg6 harg6 arg7 harg7 arg8 harg8 v0 X 8 le_rfl).1
  rw [trips1_eq]
  exact read_pieces _ f _ _ h.1 fun y => h.2 y (y 0).isLt

/-- What the slab loop leaves in the gamma block. -/
theorem read6 (f : BufTy.Contents (Elt F) arg6.view.ty) : arg6.view.read (Elt F) (arg6.view.writes (Elt F) f
    (pb_k1_t1 (F := F) 𝒱 c bd i arg1 harg1 arg2 harg2 arg3 harg3 arg4 harg4 arg5 harg5 arg6 harg6 arg7 harg7 arg8 harg8 v0 X k1_t1_loop.trips).2.1)
    = gB (arg1.view.read (Elt F) X) := by
  have h := (pb1_ok 𝒱 c bd i arg1 harg1 arg2 harg2 arg3 harg3 arg4 harg4 arg5 harg5 arg6 harg6 arg7 harg7 arg8 harg8 v0 X 8 le_rfl).2.1
  rw [trips1_eq]
  exact read_pieces _ f _ _ h.1 fun y => h.2 y (y 0).isLt

/-- What the slab loop leaves in the ternary scratch. -/
theorem read7 (f : BufTy.Contents (Elt F) arg7.view.ty) : arg7.view.read (Elt F) (arg7.view.writes (Elt F) f
    (pb_k1_t1 (F := F) 𝒱 c bd i arg1 harg1 arg2 harg2 arg3 harg3 arg4 harg4 arg5 harg5 arg6 harg6 arg7 harg7 arg8 harg8 v0 X k1_t1_loop.trips).2.2)
    = tB (arg1.view.read (Elt F) X) := by
  have h := (pb1_ok 𝒱 c bd i arg1 harg1 arg2 harg2 arg3 harg3 arg4 harg4 arg5 harg5 arg6 harg6 arg7 harg7 arg8 harg8 v0 X 8 le_rfl).2.2
  rw [trips1_eq]
  exact read_pieces _ f _ _ h.1 fun y => h.2 y (y 0).isLt

end Trip
end Cert.KernelIdeal.Run
-- ==== Proof.Acc.lean ====
module

public import proofs.«01_k».proof.Proof.Vals
public import Idealize.ShloMosaic.Lib.VecWindow

/-! What the chunk loop of the weight kernel leaves in its accumulator: eight chunk products, added one after another. -/

@[expose] public section
set_option maxRecDepth 65536
set_option maxHeartbeats 4000000
noncomputable section

namespace Cert.KernelIdeal.Run
open Cert.KernelIdeal Cert.KernelIdeal.Gen
open Idealize.ShloMosaic Idealize.SL.Sem

variable {F : FTy → Type} [FloatOps F] [Cert.KernelIdeal.Facts]

/-- The chunk loop makes eight trips. -/
theorem trips2_eq : k1_t2_loop.trips = 8 := by decide +kernel

/-- Columns `2048 j` on of the activation codes. -/
def ldx (C : Vec F S1024x16384 .i8) (j : Fin k1_t2_loop.trips) : Vec F S1024x2048 .i8 :=
  View.ld C (Rect.unit (s := S1024x16384) (k1_off162 j) S1024x2048.size (k1_off162_inb j))

/-- Columns `2048 j` on of the ternary values. -/
def ldt (T : Vec F S256x16384 .bf16) (j : Fin k1_t2_loop.trips) : Vec F S256x2048 .bf16 :=
  View.ld T (Rect.unit (s := S256x16384) (k1_off163 j) S256x2048.size (k1_off163_inb j))

/-- The accumulator before trip `j`, from what it held at loop entry. -/
def accB (A : Vec F S1024x256 .f32) (C : Vec F S1024x16384 .i8) (T : Vec F S256x16384 .bf16) : ℕ → Vec F S1024x256 .f32
  | 0 => A
  | j + 1 => if h : j < k1_t2_loop.trips then k1_pay705 (accB A C T j) (ldx C ⟨j, h⟩) (ldt T ⟨j, h⟩) else accB A C T j

section Trip
variable (𝒱 : Variants) (c : Dev nD) (bd : Option 𝒱.V) (i : grid1.Coords) (arg1 : Memref sig .tc .vmem S256x16384 .bf16) (harg1 : arg1.IsWhole) (arg2 : Memref sig .tc .vmem S1024x16384 .i8) (harg2 : arg2.IsWhole) (arg3 : Memref sig .tc .vmem S1024x128 .f32) (harg3 : arg3.IsWhole) (arg4 : Memref sig .tc .vmem S1024x256 .bf16) (harg4 : arg4.IsWhole) (arg5 : Memref sig .tc .vmem S256x4096 .i8) (harg5 : arg5.IsWhole) (arg6 : Memref sig .tc .vmem S256x128 .f32) (harg6 : arg6.IsWhole) (arg7 : Memref sig .tc .vmem S256x16384 .bf16) (harg7 : arg7.IsWhole) (arg8 : Memref sig .tc .vmem S1024x256 .f32) (harg8 : arg8.IsWhole)
  (X2 : BufTy.Contents (Elt F) arg2.view.ty) (X7 : BufTy.Contents (Elt F) arg7.view.ty) (G8 : BufTy.Contents (Elt F) arg8.view.ty)

/-- What one trip of the chunk loop stores: the chunk's product added to the accumulator it found. -/
theorem trip2_eq (j : Fin k1_t2_loop.trips) (f : BufTy.Contents (Elt F) arg8.view.ty) :
    (trip_k1_t2 (F := F) 𝒱 c bd i arg1 harg1 arg2 harg2 arg3 harg3 arg4 harg4 arg5 harg5 arg6 harg6 arg7 harg7 arg8 harg8 X2 X7 j).1 f
      = [⟨Rect.unit (s := S1024x256) ![0, 0] S1024x256.size inb_S1024x256_S1024x256_0_0,
          k1_pay705 (View.ld (arg8.view.read (Elt F) f) (Rect.unit (s := S1024x256) ![0, 0] S1024x256.size inb_S1024x256_S1024x256_0_0))
            (ldx (arg2.view.read (Elt F) X2) j) (ldt (arg7.view.read (Elt F) X7) j)⟩] := by
  unfold trip_k1_t2
  rfl

/-- The chunk loop's accumulator, read back. -/
theorem acc_ok : ∀ j : ℕ, j ≤ 8 →
    arg8.view.read (Elt F) (arg8.view.writes (Elt F) G8
      (pb_k1_t2 (F := F) 𝒱 c bd i arg1 harg1 arg2 harg2 arg3 harg3 arg4 harg4 arg5 harg5 arg6 harg6 arg7 harg7 arg8 harg8 X2 X7 G8 j))
      = accB (arg8.view.read (Elt F) G8) (arg2.view.read (Elt F) X2) (arg7.view.read (Elt F) X7) j
  | 0, _ => rfl
  | j + 1, hj => by
    have hj' : j < k1_t2_loop.trips := lt_of_lt_of_eq (by omega) trips2_eq.symm
    have ih := acc_ok j (by omega)
    have e := pb_k1_t2_succ (F := F) 𝒱 c bd i arg1 harg1 arg2 harg2 arg3 harg3 arg4 harg4 arg5 harg5 arg6 harg6 arg7 harg7 arg8 harg8 X2 X7 G8 ⟨j, hj'⟩
    dsimp only at e
    rw [e, accB, dif_pos hj', tripL_k1_t2, trip2_eq, List.cons_append, List.nil_append]
    rw [View.read_writes_full, View.ld_unit_zero (by decide +kernel), ih]

/-- The accumulator after the chunk loop. -/
theorem read8 : arg8.view.read (Elt F) (arg8.view.writes (Elt F) G8
      (pb_k1_t2 (F := F) 𝒱 c bd i arg1 harg1 arg2 harg2 arg3 harg3 arg4 harg4 arg5 harg5 arg6 harg6 arg7 harg7 arg8 harg8 X2 X7 G8 k1_t2_loop.trips))
      = accB (arg8.view.read (Elt F) G8) (arg2.view.read (Elt F) X2) (arg7.view.read (Elt F) X7) 8 := by
  rw [trips2_eq]
  exact acc_ok 𝒱 c bd i arg1 harg1 arg2 harg2 arg3 harg3 arg4 harg4 arg5 harg5 arg6 harg6 arg7 harg7 arg8 harg8 X2 X7 G8 8 le_rfl
end Trip
end Cert.KernelIdeal.Run
-- ==== Proof.Body1.lean ====
module

public import proofs.«01_k».proof.Proof.Acc
public import proofs.«01_k».proof.Proof.Gen.KernelIdeal.Launch
public import proofs.«01_k».proof.Proof.Gen.KernelIdeal.Points
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! The triple of the weight kernel's body: what it leaves in its three output blocks. -/

@[expose] public section
set_option maxRecDepth 65536

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev r1_0 : Rect S1024x128 := Rect.unit (s := S1024x128) ![0, 0] S1024x1.size inb_S1024x128_S1024x1_0_0
abbrev r1_5a : Rect S256x128 := Rect.unit (s := S256x128) ![0, 0] S128x128.size inb_S256x128_S128x128_0_0
abbrev r1_5b : Rect S256x128 := Rect.unit (s := S256x128) ![128, 0] S128x128.size inb_S256x128_S128x128_128_0

/-- The lane numbers the packing reads. -/
def lanes : IVec S8x128 32 := iota .tc S8x128 32 [1] iota_S8x128_d1_w32

/-- The output block `y`: the accumulated products, scaled by the rows' scales and the columns' gammas. -/
def out1_3 (x0 : Vec F S256x16384 .bf16) (x1 : Vec F S1024x16384 .i8) (x2 : Vec F S1024x128 .f32) : Vec F S1024x256 .bf16 :=
  k1_pay1 (k1_pay706 (View.ld (gB x0) r1_5a) (View.ld (gB x0) r1_5b)) (View.ld x2 r1_0) (accB k1_pay704 x1 (tB x0) 8)

/-- The block of packed codes. -/
def out1_4 (x0 : Vec F S256x16384 .bf16) : Vec F S256x4096 .i8 := wpB lanes x0

/-- The block of gammas. -/
def out1_5 (x0 : Vec F S256x16384 .bf16) : Vec F S256x128 .f32 := gB x0

theorem off00 : (![0, 0] : Fin S1024x256.rank → ℕ) = fun _ => 0 := by decide +kernel

/-- The stored block, operand by operand. -/
theorem pay1_congr {a a' b b' : Vec F S128x128 .f32} {s s' : Vec F S1024x1 .f32} {x x' : Vec F S1024x256 .f32}
    (ha : a = a') (hb : b = b') (hs : s = s') (hx : x = x') :
    k1_pay1 (k1_pay706 a b) s x = k1_pay1 (k1_pay706 a' b') s' x' := by subst ha hb hs hx; rfl

set_option maxHeartbeats 4000000 in
/-- The body on whole memrefs, the inputs at read contents, the outputs and the two scratch buffers at anything, runs to the
    continuation holding the inputs as they were and each output at its block function of the inputs. -/
theorem sound_kernel1 (c : Dev nD) (E : Set ℕ) (i : grid1.Coords) (arg1 : Memref sig .tc .vmem S256x16384 .bf16) (harg1 : arg1.IsWhole) (arg2 : Memref sig .tc .vmem S1024x16384 .i8) (harg2 : arg2.IsWhole) (arg3 : Memref sig .tc .vmem S1024x128 .f32) (harg3 : arg3.IsWhole) (arg4 : Memref sig .tc .vmem S1024x256 .bf16) (harg4 : arg4.IsWhole) (arg5 : Memref sig .tc .vmem S256x4096 .i8) (harg5 : arg5.IsWhole) (arg6 : Memref sig .tc .vmem S256x128 .f32) (harg6 : arg6.IsWhole) (arg7 : Memref sig .tc .vmem S256x16384 .bf16) (harg7 : arg7.IsWhole) (arg8 : Memref sig .tc .vmem S1024x256 .f32) (harg8 : arg8.IsWhole)
    (x0 : Vec F S256x16384 .bf16) (x1 : Vec F S1024x16384 .i8) (x2 : Vec F S1024x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2) ∗ owns (c : Thread nD τ) arg5 fullShare (out1_4 x0) ∗ owns (c : Thread nD τ) arg6 fullShare (out1_5 x0) ∗ (∃ d, owns (c : Thread nD τ) arg7 fullShare d) ∗ (∃ d, owns (c : Thread nD τ) arg8 fullShare d)) -∗ K ⟨⟩))
      ⊢ wp frame (wpE (defs₀ (F := F)) Variants.none c none) E (cc1_bitlinear i arg1 harg1 arg2 harg2 arg3 harg3 arg4 harg4 arg5 harg5 arg6 harg6 arg7 harg7 arg8 harg8) K := by
  simp only [cc1_bitlinear_eq_skeleton]; unfold cc1_bitlinear_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_full]
    unfold sound_kernel1.sl.r sound_kernel1.sl.r_1 sound_kernel1.sl.v33 out1_3 sound_kernel1.sl.v22 sound_kernel1.sl.v26 sound_kernel1.sl.H7_1
    refine pay1_congr ?_ ?_ rfl ?_
    · exact congrArg (fun X : Vec F S256x128 .f32 => View.ld X r1_5a) (read6 ..)
    · exact congrArg (fun X : Vec F S256x128 .f32 => View.ld X r1_5b) (read6 ..)
    · refine (View.ld_unit_zero (Val := Elt F) (e := .f32) (h := off00) ..).trans ?_
      rw [View.writes_append]
      refine (read8 ..).trans ?_
      rw [View.read_writes_full]
      exact congrArg (fun T => accB k1_pay704 (View.read (Elt F) arg2.view f1) T 8) (read7 ..)
  isplitl [H4]
  · iexists _; isplitr
    swap; · iexact H4
    ipureintro
    exact read5 ..
  isplitl [H5]
  · iexists _; isplitr
    swap; · iexact H5
    ipureintro
    exact read6 ..
  isplitl [H6]
  · iexists _; iexists _; isplitr
    swap; · iexact H6
    ipureintro; rfl
  iexists _; iexists _; isplitr
  swap; · iexact H7
  ipureintro; rfl

end Cert.KernelIdeal.Run
-- ==== Proof.Run.lean ====
module

public import proofs.«01_k».proof.Proof.Body1
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! The run of the whole program, region by region: the buffer contents at every boundary, and that both arguments end as
    they were launched.  Everything is at any float instance. -/

@[expose] public section

-- membership in a rectangle of production extents (`View.cover_of_tiled`): the elaborator's structural look
-- recurses once per coordinate of the long axes
set_option maxRecDepth 16384

noncomputable section

namespace Cert.KernelIdeal.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_quant_x` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S64x16384 := Rect.unit (s := S64x16384) ![0, 0] S64x16384.size inb_S64x16384_S64x16384_0_0
abbrev r0_1 : Rect S64x128 := Rect.unit (s := S64x128) ![0, 0] S64x128.size inb_S64x128_S64x128_0_0

/-! ## What the body leaves in each output window's buffer -/

/-- Window 1's staging buffer after the body, from the input windows' blocks: its 1 store as pieces, LAST
    FIRST (Lib/Pipeline/FrameBody.lean `View.canon`; the payloads are the skeleton's). -/
def out0_1 (x0 : Vec F S64x16384 .bf16) : Vec F S64x16384 .i8 :=
  View.canon [⟨r0_0, k0_pay3 (View.ld x0 r0_0)⟩]

/-- Its stores tile the buffer (checked by evaluation), so they cover it. -/
theorem cover0_1 (p0 : Vec F S64x16384 .i8) (y : S64x16384.Idx) :
    ∃ pc ∈ ([⟨r0_0, p0⟩] : List (View.Piece (Elt F) S64x16384 .i8)), y ∈ pc.1.set :=
  View.cover_of_tiled [⟨r0_0, p0⟩] S64x16384.size (by rfl) y

/-- Window 2's staging buffer after the body, from the input windows' blocks: its 1 store as pieces, LAST
    FIRST (Lib/Pipeline/FrameBody.lean `View.canon`; the payloads are the skeleton's). -/
def out0_2 (x0 : Vec F S64x16384 .bf16) : Vec F S64x128 .f32 :=
  View.canon [⟨r0_1, k0_pay4 (View.ld x0 r0_0)⟩]

/-- Its stores tile the buffer (checked by evaluation), so they cover it. -/
theorem cover0_2 (p0 : Vec F S64x128 .f32) (y : S64x128.Idx) :
    ∃ pc ∈ ([⟨r0_1, p0⟩] : List (View.Piece (Elt F) S64x128 .f32)), y ∈ pc.1.set :=
  View.cover_of_tiled [⟨r0_1, p0⟩] S64x128.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S64x16384 .bf16) (harg1 : arg1.IsWhole) (arg2 : Memref sig .tc .vmem S64x16384 .i8) (harg2 : arg2.IsWhole) (arg3 : Memref sig .tc .vmem S64x128 .f32) (harg3 : arg3.IsWhole)
    (x0 : Vec F S64x16384 .bf16) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0_quant_x i arg1 harg1 arg2 harg2 arg3 harg3) K := by
  simp only [cc0_quant_x_eq_skeleton]; unfold cc0_quant_x_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  iexists _; isplitr
  swap; · iexact H2
  ipureintro
  exact View.read_writes_eq_canon _ _ _ (cover0_2 _)

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1_bitlinear` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => out1_4 (iblk1 V c 0 t)
    | ⟨5, _⟩ => out1_5 (iblk1 V c 0 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem after1_4 (c : Dev nD) (t : Fin cfg1.N) : (dat1 V c).after 4 t = out1_4 (iblk1 V c 0 t) := by dsimp only [dat1]
theorem after1_5 (c : Dev nD) (t : Fin cfg1.N) : (dat1 V c).after 5 t = out1_5 (iblk1 V c 0 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = Pipeline.ΦA spec1 c from rfl, show (dat1 V c).Φ t.castSucc = Pipeline.ΦA spec1 c from rfl,
    show (dat1 V c).owesAt () t.succ = (dat1 V c).owesAt () t.castSucc from rfl,
    after1_0, after1_1, after1_2, after1_3, after1_4, after1_5]
  unfold Pipeline.ΦA
  rw [scopedRest1_eq]
  iintro ⟨⟨⟨G0, G1, G2, G3, G4, G5, ⟨%g6, G6⟩, ⟨%g7, G7⟩⟩, Hp⟩, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (Memref.whole cc1_scratch0) (Memref.isWhole_whole _) (Memref.whole cc1_scratch1) (Memref.isWhole_whole _) (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [G6]; · iexists g6; rw [owns_whole]; iexact G6
  isplitl [G7]; · iexists g7; rw [owns_whole]; iexact G7
  simp only [owns_whole]
  iintro ⟨H0, H1, H2, H3, H4, H5, G6, G7⟩
  isplitl [G0 G1 G2 G3 G4 G5 G6 G7 Hp]
  · isplitr [Hp]
    · isplitl [G0]; · iexact G0
      isplitl [G1]; · iexact G1
      isplitl [G2]; · iexact G2
      isplitl [G3]; · iexact G3
      isplitl [G4]; · iexact G4
      isplitl [G5]; · iexact G5
      isplitl [G6]; · iexact G6
      iexact G7
    · iexact Hp
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

/-! # THE RUN: @main's segments from the launch to the return (Lib/Pipeline/Regions.lean `θ_run_regions_kit`) -/

/-- @main's argument arrays, as TensorCore references: what the frame claim reads back. -/
abbrev argRefs : List (Ref sig .tc) := [main_arg0, main_arg1]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v3, main_v4, main_v5, main_v6, main_v7, main_v8, main_v9]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2`. -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- Every execution ends with each unscoped buffer at what the last segment leaves and every counter at zero. -/
theorem run_all : θ_run defs (onTc (τ := τ) (main (F := F))) ⟨m, fun _ => 0, ρ⟩ (fun r => (∀ c : Dev nD,
      ∀ b ∈ Pipeline.ucRefs τ sig, r.2.mem (((c : Thread nD τ)).1, b) = W4 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- THE FRAME: `Cert.quiescent_KernelIdeal`'s statement (Defs.lean) at any `F` — at the compiled mesh, from any
    memory with zero counters, every weakly fair execution of @main on the TensorCores terminates, nothing faulting, and every
    final state has the argument arrays as launched and every semaphore counter of the machine at zero: the kit's launch over
    the segments, the last thread state read against the final state (`pointsTo_read_all`), each argument by `W4_<arg>`;
    the kit shows every counter at zero except the TensorCores' unscoped ones, of which there are none. Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨(h.1 c _ (mem_uc main_arg0 (by decide))).trans (W4_main_arg0 m ρ c),
     (h.1 c _ (mem_uc main_arg1 (by decide))).trans (W4_main_arg1 m ρ c)⟩, h.2⟩) (run_all m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h => h.1) (frame m ρ)

end Cert.KernelIdeal.Run

end
-- ==== Proof.Transport.lean ====
module

public import proofs.«01_k».proof.Proof.Run
public import proofs.«01_k».proof.Proof.Gen.Kernel
public import Idealize.ShloMosaic.PureOps.BitExact

/-! The kernel as printed for the chip and as printed for the idealization are one program text: its frame is the
    idealization's frame at the machine's floats. -/

@[expose] public section
set_option maxRecDepth 100000

noncomputable section

namespace Cert.KernelIdeal.Run

open Idealize.ShloMosaic Idealize.ShloMosaic.TcCoe
open Idealize.SL Idealize.SL.Sem

/-- The bodies under the same labels are the same functions. -/
theorem defs₀_eq : @Cert.Kernel.defs₀ Bits _ _ = @Cert.KernelIdeal.defs₀ Bits _ _ := by
  unfold Cert.Kernel.defs₀ Cert.KernelIdeal.defs₀
  apply congrArg
  funext x y
  match x, y with
  | 0, (t, s) => rfl
  | 1, (t, s) => rfl

/-- The pipelines are the same. -/
theorem pcfgs_eq : @Cert.Kernel.pcfgs Bits _ = @Cert.KernelIdeal.pcfgs Bits _ := by
  funext p
  match p with
  | 0 => rfl
  | 1 => rfl

/-- The function tables are the same. -/
theorem defs_eq : @Cert.Kernel.defs Bits _ _ = @Cert.KernelIdeal.defs Bits _ _ := by
  unfold Cert.Kernel.defs Cert.KernelIdeal.defs
  exact congrArg (Pipeline.defs (@Cert.KernelIdeal.pcfgs Bits _)) defs₀_eq

/-- The entry functions are the same. -/
theorem main_eq : @Cert.Kernel.main Bits _ = @Cert.KernelIdeal.main Bits _ := rfl

/-- The kernel runs, leaves both arguments as they were, and ends with every counter at zero. -/
theorem frame_Kernel (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) := by
  rw [defs_eq, main_eq]
  exact frame (F := Bits) m g

end Cert.KernelIdeal.Run
-- ==== Proof.Scalar.lean ====
module

public import Idealize.ShloMosaic.PureOps.Ideal
public import Idealize.ShloMosaic.PureOps.Ideal.Laws

/-! The arithmetic of one row over the extended reals: gamma, the ternary value, and the two ways of computing it. -/

@[expose] public section
noncomputable section

namespace Cert.Alg
open Idealize.ShloMosaic

/-- The literal `0.5`. -/
theorem lit_half : Ideal.ofBits .f32 0x3F000000#32 = ((1 / 2 : ℝ) : EReal) := by
  simp [Ideal.ofBits, Ideal.ieee, -EReal.coe_mul]; norm_num
/-- The literal `1`. -/
theorem lit_one : Ideal.ofBits .f32 0x3F800000#32 = 1 := by
  simp [Ideal.ofBits, Ideal.ieee, -EReal.coe_mul]
  try norm_num
/-- The literal `-1`. -/
theorem lit_neg_one : Ideal.ofBits .f32 0xBF800000#32 = -1 := by
  simp [Ideal.ofBits, Ideal.ieee, -EReal.coe_mul]
  try norm_num
/-- The literal `1 / 16384`. -/
theorem lit_inv : Ideal.ofBits .f32 0x38800000#32 = ((1 / 16384 : ℝ) : EReal) := by
  simp [Ideal.ofBits, Ideal.ieee, -EReal.coe_mul]; norm_num
/-- The literal `16384`. -/
theorem lit_n : Ideal.ofBits .f32 0x46800000#32 = ((16384 : ℝ) : EReal) := by
  simp [Ideal.ofBits, Ideal.ieee, -EReal.coe_mul]; norm_num

/-- The sum of a row's magnitudes. -/
def rowSum (r : Fin 16384 → EReal) : EReal := ∑ k, max (r k) (-(r k))

/-- A row's gamma: its mean magnitude. -/
def rowG (r : Fin 16384 → EReal) : EReal := rowSum r * ((1 / 16384 : ℝ) : EReal)

/-- The quotient by the row's length is the product with its reciprocal. -/
theorem div_n (s : EReal) : Ideal.div s ((16384 : ℝ) : EReal) = s * ((1 / 16384 : ℝ) : EReal) :=
  Ideal.div_coe (by norm_num) s

theorem abs_nonneg' (a : EReal) : 0 ≤ max a (-a) := by
  rcases le_total 0 a with h | h
  · exact le_max_of_le_left h
  · exact le_max_of_le_right (by rw [EReal.le_neg]; simpa using h)

/-- Gamma is not negative. -/
theorem rowG_nonneg (r : Fin 16384 → EReal) : 0 ≤ rowG r :=
  mul_nonneg (Finset.sum_nonneg fun _ _ => abs_nonneg' _) (by exact_mod_cast (by norm_num : (0:ℝ) ≤ 1 / 16384))

/-- Where gamma is zero the row is zero. -/
theorem rowG_zero (r : Fin 16384 → EReal) (h : rowG r = 0) (k : Fin 16384) : r k = 0 := by
  unfold rowG at h
  rcases mul_eq_zero.mp h with h | h
  · have := (Finset.sum_eq_zero_iff_of_nonneg (fun i _ => abs_nonneg' (r i))).mp h k (Finset.mem_univ k)
    by_contra hne
    exact absurd this (ne_of_gt ((Ideal.zero_lt_max_neg_iff (r k)).mpr hne))
  · exfalso
    have : ((1 / 16384 : ℝ) : EReal) ≠ 0 := by exact_mod_cast (by norm_num : (1 / 16384 : ℝ) ≠ 0)
    exact this h

/-- The ternary value: the sign of `w` where its magnitude is above half of gamma, else zero. -/
def ternZ (g w : EReal) : ℤ :=
  if g * ((1 / 2 : ℝ) : EReal) < w then 1 else if w < 0 - g * ((1 / 2 : ℝ) : EReal) then -1 else 0

theorem ternZ_range (g w : EReal) : ternZ g w = 1 ∨ ternZ g w = -1 ∨ ternZ g w = 0 := by
  unfold ternZ; split_ifs <;> simp

theorem neg_one_coe : (-1 : EReal) = ((-1 : ℝ) : EReal) := by rw [EReal.coe_neg]; rfl

theorem round_hi {q : ℝ} (h : 1 / 2 < q) : 1 ≤ Ideal.roundHalfEven q := by
  unfold Ideal.roundHalfEven
  have h0 : 0 ≤ ⌊q⌋ := Int.floor_nonneg.mpr (by linarith)
  dsimp only
  split_ifs with a b c
  · by_contra hh
    have : ⌊q⌋ = 0 := by omega
    rw [this] at a; norm_num at a; linarith
  · omega
  · by_contra hh
    have h1 : ⌊q⌋ = 0 := by omega
    rw [h1] at b; norm_num at b; linarith
  · omega

theorem round_lo {q : ℝ} (h : q < -(1 / 2)) : Ideal.roundHalfEven q ≤ -1 := by
  unfold Ideal.roundHalfEven
  have h0 : ⌊q⌋ < 0 := Int.floor_lt.mpr (by push_cast; linarith)
  have h2 : q - ⌊q⌋ < 1 := by have := Int.lt_floor_add_one q; linarith
  dsimp only
  split_ifs with a b c
  · omega
  · by_contra hh
    have h1 : ⌊q⌋ = -1 := by omega
    rw [h1] at b; norm_num at b; linarith
  · omega
  · by_contra hh
    have h1 : ⌊q⌋ = -1 := by omega
    rw [h1] at a; norm_num at a; linarith

theorem round_mid {q : ℝ} (h1 : q ≤ 1 / 2) (h2 : -(1 / 2) ≤ q) : Ideal.roundHalfEven q = 0 := by
  unfold Ideal.roundHalfEven
  dsimp only
  have hl : -1 ≤ ⌊q⌋ := Int.le_floor.mpr (by push_cast; linarith)
  have hu : ⌊q⌋ < 1 := Int.floor_lt.mpr (by push_cast; linarith)
  rcases (by omega : ⌊q⌋ = 0 ∨ ⌊q⌋ = -1) with h | h
  · rw [h]; norm_num
    intro _
    exact h1
  · rw [h]; norm_num
    linarith

/-- Rounding the quotient by gamma and clipping it to `[-1, 1]` is comparing with half of gamma. -/
theorem tern_ref (g w : EReal) (hg : 0 ≤ g) (hw : g = 0 → w = 0) :
    min 1 (max (-1) (Ideal.liftRound Ideal.roundHalfEven (if g = 0 then 0 else Ideal.div w g)))
      = ((ternZ g w : ℝ) : EReal) := by
  by_cases h0 : g = 0
  · rw [if_pos h0, hw h0, h0]
    have : Ideal.liftRound Ideal.roundHalfEven 0 = 0 := by
      show ((Ideal.roundHalfEven 0 : ℝ) : EReal) = 0
      rw [round_mid (by norm_num) (by norm_num)]; simp
    rw [this]
    unfold ternZ
    simp
  · rw [if_neg h0, Ideal.div, if_neg h0]
    induction g using EReal.rec with
    | bot => exact absurd hg (by simp)
    | top =>
      have : Ideal.liftRound Ideal.roundHalfEven (w * (⊤ : EReal)⁻¹) = 0 := by
        rw [EReal.inv_top, mul_zero]
        show ((Ideal.roundHalfEven 0 : ℝ) : EReal) = 0
        rw [round_mid (by norm_num) (by norm_num)]; simp
      rw [this]
      have e : (⊤ : EReal) * ((1 / 2 : ℝ) : EReal) = ⊤ := EReal.top_mul_coe_of_pos (by norm_num)
      unfold ternZ
      rw [e]
      simp
    | coe g =>
      have gp : 0 < g := lt_of_le_of_ne (by exact_mod_cast hg) (fun h => h0 (by rw [← h]; rfl))
      have e : (g : EReal) * ((1 / 2 : ℝ) : EReal) = ((g * (1 / 2) : ℝ) : EReal) := (EReal.coe_mul _ _).symm
      have e' : (0 : EReal) - ((g * (1 / 2) : ℝ) : EReal) = ((-(g * (1 / 2)) : ℝ) : EReal) := by
        rw [zero_sub, EReal.coe_neg]
      have hn : (g : EReal)⁻¹ = ((g⁻¹ : ℝ) : EReal) := (EReal.coe_inv g).symm
      rw [hn]
      unfold ternZ
      rw [e, e']
      induction w using EReal.rec with
      | bot =>
        rw [EReal.bot_mul_coe_of_pos (inv_pos.mpr gp)]
        show min 1 (max (-1) ⊥) = _
        rw [if_neg (by simp), if_pos (EReal.bot_lt_coe _)]
        rw [max_eq_left bot_le]
        rw [min_eq_right]
        · simp
        · rw [neg_one_coe]; exact EReal.coe_le_coe_iff.mpr (by norm_num)
      | top =>
        rw [EReal.top_mul_coe_of_pos (inv_pos.mpr gp)]
        show min 1 (max (-1) ⊤) = _
        rw [if_pos (EReal.coe_lt_top _)]
        simp
      | coe w =>
        rw [← EReal.coe_mul]
        show min 1 (max (-1) ((Ideal.roundHalfEven (w * g⁻¹) : ℝ) : EReal)) = _
        have e1 : (1 : EReal) = ((1 : ℝ) : EReal) := rfl
        rw [neg_one_coe, e1, ← EReal.coe_strictMono.monotone.map_max, ← EReal.coe_strictMono.monotone.map_min]
        congr 1
        simp only [EReal.coe_lt_coe_iff]
        have q1 : g * (1 / 2) < w ↔ 1 / 2 < w * g⁻¹ := by
          rw [← div_eq_mul_inv, lt_div_iff₀ gp]; constructor <;> intro h <;> linarith
        have q2 : w < -(g * (1 / 2)) ↔ w * g⁻¹ < -(1 / 2) := by
          rw [← div_eq_mul_inv, div_lt_iff₀ gp]; constructor <;> intro h <;> linarith
        split_ifs with a b
        · have := round_hi (q1.mp a)
          have : (1 : ℝ) ≤ (Ideal.roundHalfEven (w * g⁻¹) : ℝ) := by exact_mod_cast this
          rw [max_eq_right (by linarith), min_eq_left this]; simp
        · have := round_lo (q2.mp b)
          have : (Ideal.roundHalfEven (w * g⁻¹) : ℝ) ≤ -1 := by exact_mod_cast this
          rw [max_eq_left this]; norm_num
        · rw [q1, not_lt] at a
          rw [q2, not_lt] at b
          rw [round_mid a b]; norm_num

/-- Minus infinity, in both formats. -/
theorem lit_bot16 : Ideal.ofBits .bf16 0xFF80#16 = ⊥ := by
  simp [Ideal.ofBits, Ideal.ieee]
theorem lit_bot32 : Ideal.ofBits .f32 0xFF800000#32 = ⊥ := by
  simp [Ideal.ofBits, Ideal.ieee]

/-- A row's greatest magnitude. -/
def rowMax (r : Fin 16384 → EReal) : EReal := (Finset.univ : Finset (Fin 16384)).fold max ⊥ fun k => max (r k) (-(r k))

/-- The scale from the greatest magnitude: that over 127, or one where it is zero. -/
def scaleOf (a : EReal) : EReal :=
  Scalar.select (Ideal.cmp .oeq a (Ideal.ofBits .f32 0x00000000#32)) (Ideal.ofBits .f32 0x3F800000#32) (Ideal.div a (Ideal.ofBits .f32 0x42FE0000#32))

/-- A row's scale. -/
def rowS (r : Fin 16384 → EReal) : EReal := scaleOf (rowMax r)

/-- The scale, as both programs write it. -/
theorem scale_gen {s : Shape} (a : FVec Ideal s .f32) (i : s.Idx) :
    select (cmpf .oeq a (broadcast s (Scalar.ofBits (F := Ideal) .f32 0x00000000#32))) (broadcast s (Scalar.ofBits (F := Ideal) .f32 0x3F800000#32))
      (divf a (broadcast s (Scalar.ofBits (F := Ideal) .f32 0x42FE0000#32))) i = scaleOf (a i) := rfl

/-- The code of an entry at a scale: the rounded quotient, clipped to -127 … 127. -/
def code (s w : EReal) : BitVec 8 :=
  Ideal.fptosi 8 (min (Scalar.sitofp (F := Ideal) .f32 127#32) (max (Scalar.sitofp (F := Ideal) .f32 4294967169#32)
    (Ideal.liftRound Ideal.roundHalfEven (Ideal.div w s))))

/-- The code, as both programs write it. -/
theorem code_gen {s : Shape} (a b : FVec Ideal s .f32) (i : s.Idx) :
    fptosi 8 (minimumf (broadcast s (Scalar.sitofp (F := Ideal) .f32 127#32)) (maximumf (broadcast s (Scalar.sitofp (F := Ideal) .f32 4294967169#32))
      (roundeven (divf a b)))) i = code (b i) (a i) := rfl
end Cert.Alg
-- ==== Proof.Blk.lean ====
module

public import proofs.«01_k».proof.Proof.Body1
public import proofs.«01_k».proof.Proof.Scalar
public import Idealize.ShloMosaic.Lib.ValueIdx

/-! The weight kernel's blocks over the extended reals, element by element: gammas and ternary values. -/

@[expose] public section
set_option maxRecDepth 65536
noncomputable section

namespace Cert.KernelIdeal.Run
open Cert.KernelIdeal Cert.KernelIdeal.Gen Cert.Alg
open Idealize.ShloMosaic Idealize.ShloMosaic.ValueIdx
open scoped BigOperators

variable [Cert.KernelIdeal.Facts]

/-- Row `i` of slab `k`, in the block. -/
def rIx (k : Fin k1_t1_loop.trips) (i : Fin 32) : Fin 256 :=
  ⟨32 * k.val + i.val, by have hk : k.val < 8 := lt_of_lt_of_eq k.isLt trips1_eq; have := i.isLt; omega⟩

/-- Column `l` of chunk `c`. -/
def cIx (c : Fin 128) (l : Fin 128) : Fin 16384 := ⟨128 * c.val + l.val, by have := c.isLt; have := l.isLt; omega⟩

/-- A chunk of a slab, element by element. -/
theorem wl_apply (X : Vec Ideal S256x16384 .bf16) (k : Fin k1_t1_loop.trips) (c : Fin 128) (i : Fin 32) (l : Fin 128) :
    wl X k c (ix2 i l) = X (ix2 (rIx k i) (cIx c l)) := by
  have e0 := ValueKit.rect_emb_unit_val (s := S256x16384) (offc k c) S32x128.size (offc_inb k c) (ix2 i l) 0
  have e1 := ValueKit.rect_emb_unit_val (s := S256x16384) (offc k c) S32x128.size (offc_inb k c) (ix2 i l) 1
  have h0 : offc k c 0 = 32 * k.val := off1_row k
  unfold wl
  show X _ = X _
  refine congrArg X (funext fun a => Fin.ext ?_)
  match a with
  | 0 => exact e0.trans (by rw [h0]; rfl)
  | 1 => exact e1

/-- The running sum of magnitudes, lane by lane. -/
theorem part_apply (X : Vec Ideal S256x16384 .bf16) (k : Fin k1_t1_loop.trips) (i : Fin 32) (l : Fin 128) : ∀ n : ℕ,
    part X k n (ix2 i l) = ∑ c ∈ Finset.range n,
      max (X (ix2 (rIx k i) (cIx (Fin.ofNat 128 c) l))) (-(X (ix2 (rIx k i) (cIx (Fin.ofNat 128 c) l))))
  | 0 => by
    unfold part
    rw [Finset.range_zero, Finset.sum_empty]
    exact Ideal.ofBits_zero_f32
  | n + 1 => by
    have e : part X k (n + 1) (ix2 i l) = part X k n (ix2 i l)
        + max (wl X k (Fin.ofNat 128 n) (ix2 i l)) (-(wl X k (Fin.ofNat 128 n) (ix2 i l))) := rfl
    rw [e, part_apply X k i l n, Finset.sum_range_succ, wl_apply]

/-- A sum over the columns is the sum over the lanes of the sums over the chunks. -/
theorem sum_cols (f : Fin 16384 → EReal) :
    ∑ l : Fin 128, ∑ c ∈ Finset.range 128, f (cIx (Fin.ofNat 128 c) l) = ∑ j, f j := by
  rw [Finset.sum_comm, Finset.sum_range fun c => ∑ l : Fin 128, f (cIx (Fin.ofNat 128 c) l), ← Finset.sum_product']
  refine Finset.sum_bij (fun p _ => cIx p.1 p.2) (fun _ _ => Finset.mem_univ _) ?_ ?_ ?_
  · rintro ⟨a, b⟩ _ ⟨c, d⟩ _ h
    have h' := congrArg Fin.val h
    simp only [cIx] at h'
    exact Prod.ext (Fin.ext (by show a.val = c.val; omega)) (Fin.ext (by show b.val = d.val; omega))
  · intro j _
    exact ⟨(⟨j.val / 128, by omega⟩, ⟨j.val % 128, by omega⟩), Finset.mem_product.mpr ⟨Finset.mem_univ _, Finset.mem_univ _⟩,
      Fin.ext (by simp only [cIx]; omega)⟩
  · rintro ⟨a, b⟩ _
    show f (cIx (Fin.ofNat 128 a.val) b) = f (cIx a b)
    rw [show Fin.ofNat 128 a.val = a from Fin.ext (Nat.mod_eq_of_lt a.isLt)]

/-- A row sum over the lanes. -/
theorem laneSum (x : FVec Ideal S32x128 .f32) (i : Fin 32) :
    multiReduction (F := Ideal) .add [1] S32 x 0x00000000#32 reduces_S32x128_S32 (.inl rfl) rfl (ix1 i) = ∑ l : Fin 128, x (ix2 i l) := by
  have h := Ideal.multiReduction_add_single (a := (1 : Fin S32x128.rank)) x (FKind.add.neutral .f32 (.inl rfl)) reduces_S32x128_S32 (.inl rfl) rfl (ix1 i)
  refine Eq.trans h ?_
  show ∑ l : Fin 128, _ = _
  refine Finset.sum_congr rfl fun l _ => ?_
  have hl : reduces_S32x128_S32.lift (ix1 i) l = ix2 i l := by
    funext a
    match a with
    | 0 => rfl
    | 1 => rfl
  exact congrArg x hl

/-- A slab's gammas. -/
theorem gam_apply (X : Vec Ideal S256x16384 .bf16) (k : Fin k1_t1_loop.trips) (i : Fin 32) (z : Fin 1) :
    gam X k (ix2 i z) = rowG fun j => X (ix2 (rIx k i) j) := by
  have e : gam X k (ix2 i z) = shapeCast S32x1 (multiReduction (F := Ideal) .add [1] S32 (part X k 128) 0x00000000#32 reduces_S32x128_S32 (.inl rfl) rfl) shapeCasts_S32_S32x1 (ix2 i z)
      * Ideal.ofBits .f32 0x38800000#32 := rfl
  rw [e, lit_inv, shapeCast_apply _ _ (ix2 i z) (ix1 i) (by
    rw [Shape.rowMajor_val_one, Shape.rowMajor_val_two]
    show i.val = i.val * 1 + z.val
    omega)]
  unfold rowG rowSum
  rw [← sum_cols]
  refine congrArg (· * _) ((laneSum _ i).trans (Finset.sum_congr rfl fun l _ => part_apply X k i l 128))

/-- Half of a slab's gammas, in every lane. -/
theorem pay17_apply (g : FVec Ideal S32x1 .f32) (i : Fin 32) (l : Fin 128) :
    k1_pay17 g (ix2 i l) = g (ix2 i 0) * ((1 / 2 : ℝ) : EReal) := by
  unfold k1_pay17
  rw [shapeCast_self, broadcastTo_apply _ _ (ix2 i l) (ix2 i 0) (fun a => match a with
    | 0 => rfl
    | 1 => rfl), ← lit_half]
  rfl

/-- A choice on a decided comparison. -/
theorem select_ofBool {α : Type} (p : Prop) [Decidable p] (a b : α) :
    Scalar.select (BitVec.ofBool (decide p)) a b = if p then a else b := by
  by_cases h : p
  · rw [if_pos h, decide_eq_true h]; rfl
  · rw [if_neg h, decide_eq_false h]; rfl

/-- A ternary value. -/
theorem tfv_apply (g : FVec Ideal S32x1 .f32) (w : Vec Ideal S32x128 .bf16) (i : Fin 32) (l : Fin 128) :
    tfv g w (ix2 i l) = (((ternZ (g (ix2 i 0)) (w (ix2 i l)) : ℤ) : ℝ) : EReal) := by
  have e : tfv g w (ix2 i l) = Scalar.select (Ideal.cmp .ogt (w (ix2 i l)) (k1_pay17 g (ix2 i l))) (Ideal.ofBits .f32 0x3F800000#32)
      (Scalar.select (Ideal.cmp .olt (w (ix2 i l)) (Ideal.ofBits .f32 0x00000000#32 - k1_pay17 g (ix2 i l))) (Ideal.ofBits .f32 0xBF800000#32)
        (Ideal.ofBits .f32 0x00000000#32)) := rfl
  rw [e, pay17_apply, lit_one, lit_neg_one, Ideal.ofBits_zero_f32]
  have s1 : Ideal.cmp .ogt (w (ix2 i l)) (g (ix2 i 0) * ((1 / 2 : ℝ) : EReal))
      = BitVec.ofBool (decide (g (ix2 i 0) * ((1 / 2 : ℝ) : EReal) < w (ix2 i l))) := rfl
  have s2 : Ideal.cmp .olt (w (ix2 i l)) (0 - g (ix2 i 0) * ((1 / 2 : ℝ) : EReal))
      = BitVec.ofBool (decide (w (ix2 i l) < 0 - g (ix2 i 0) * ((1 / 2 : ℝ) : EReal))) := rfl
  rw [s1, s2, select_ofBool, select_ofBool]
  unfold ternZ
  split_ifs
  · rw [Int.cast_one]; rfl
  · rw [Int.cast_neg, Int.cast_one]; exact neg_one_coe
  · rw [Int.cast_zero]; rfl

/-- Where an index of the block sits among the slabs. -/
theorem ix_slab (k : Fin k1_t1_loop.trips) (r : Fin 256) (h : k.val = r.val / 32) (i : Fin 32) (hi : i.val = r.val % 32) : rIx k i = r :=
  Fin.ext (by show 32 * k.val + i.val = r.val; omega)

/-- The block of ternary values. -/
theorem tB_apply (X : Vec Ideal S256x16384 .bf16) (r : Fin 256) (j : Fin 16384) :
    tB X (ix2 r j) = (((ternZ (rowG fun j => X (ix2 r j)) (X (ix2 r j)) : ℤ) : ℝ) : EReal) := by
  have hk : r.val / 32 < k1_t1_loop.trips := by rw [trips1_eq]; omega
  have e : tB X (ix2 r j) = tbv (gam X ⟨r.val / 32, hk⟩) (wl X ⟨r.val / 32, hk⟩ (Fin.ofNat 128 (j.val / 128)))
      (ix2 ⟨r.val % 32, by omega⟩ ⟨j.val % 128, by omega⟩) := by
    unfold tB tiled
    refine congrArg (tbv _ _) (funext fun a => ?_)
    match a with
    | 0 => rfl
    | 1 => rfl
  have e2 (g : FVec Ideal S32x1 .f32) (w : Vec Ideal S32x128 .bf16) : tbv g w = tfv g w := by
    unfold tbv
    rw [shapeCast_self]
    rfl
  rw [e, e2, tfv_apply, gam_apply, wl_apply, ix_slab ⟨r.val / 32, hk⟩ r rfl _ rfl,
    show cIx (Fin.ofNat 128 (j.val / 128)) ⟨j.val % 128, by omega⟩ = j from
      Fin.ext (by show 128 * (j.val / 128 % 128) + j.val % 128 = j.val; omega)]

/-- The block of gammas. -/
theorem gB_apply (X : Vec Ideal S256x16384 .bf16) (r : Fin 256) (l : Fin 128) : gB X (ix2 r l) = rowG fun j => X (ix2 r j) := by
  have hk : r.val / 32 < k1_t1_loop.trips := by rw [trips1_eq]; omega
  have e : gB X (ix2 r l) = broadcastTo S32x128 (shapeCast S32x1 (gam X ⟨r.val / 32, hk⟩) shapeCasts_S32x1_S32x1) broadcasts_S32x1_S32x128
      (ix2 ⟨r.val % 32, by omega⟩ ⟨l.val % 128, by omega⟩) := by
    unfold gB tiled
    refine congrArg (broadcastTo _ _ _) (funext fun a => ?_)
    match a with
    | 0 => rfl
    | 1 => rfl
  rw [e, shapeCast_self, broadcastTo_apply _ _ _ (ix2 ⟨r.val % 32, by omega⟩ 0) (fun a => match a with
    | 0 => rfl
    | 1 => rfl), gam_apply, ix_slab ⟨r.val / 32, hk⟩ r rfl _ rfl]
end Cert.KernelIdeal.Run
-- ==== Proof.Pack.lean ====
module

public import proofs.«01_k».proof.Proof.Blk
public import Idealize.ShloMosaic.Lib.BitcastFour

/-! The packed bytes of the weight kernel, byte by byte: lane shuffles and merges read at a lane, words read as bytes. -/

@[expose] public section
set_option maxRecDepth 65536
noncomputable section

namespace Cert.KernelIdeal.Run
open Cert.KernelIdeal Cert.KernelIdeal.Gen Cert.Alg
open Idealize.ShloMosaic Idealize.ShloMosaic.ValueIdx
open scoped BigOperators

variable [Cert.KernelIdeal.Facts]

/-- Words below 128 are not negative. -/
theorem wrap_word : ∀ n : Fin 128, Scalar.select (IntOp.cmpi .slt (BitVec.ofNat 32 n.val) 0#32)
    (BitVec.ofNat 32 n.val + 128#32) (BitVec.ofNat 32 n.val) = BitVec.ofNat 32 n.val := by decide +kernel

/-- A lane shuffle reads the lane its index word names. -/
theorem shufv_apply (o x : IVec S8x128 32) (a : Fin 8) (l n : Fin 128) (h : o (ix2 a l) = BitVec.ofNat 32 n.val) :
    shufv o x (ix2 a l) = x (ix2 a n) := by
  unfold shufv
  have e : ∀ s : IVec S8x128 32, shapeCast S8x128 (shapeCast S8x128x1 s shapeCasts_S8x128_S8x128x1) shapeCasts_S8x128x1_S8x128 (ix2 a l)
      = s (ix2 a l) := fun s => by
    rw [shapeCast_apply _ _ (ix2 a l) (ix3 a l 0) (by
        rw [Shape.rowMajor_val_three, Shape.rowMajor_val_two]
        show (a.val * 128 + l.val) * 1 + 0 = a.val * 128 + l.val
        omega),
      shapeCast_apply _ _ (ix3 a l 0) (ix2 a l) (by
        rw [Shape.rowMajor_val_three, Shape.rowMajor_val_two]
        show a.val * 128 + l.val = (a.val * 128 + l.val) * 1 + 0
        omega)]
  have ew : select (cmpi .slt o (broadcast S8x128 0#32)) (addi o (broadcast S8x128 128#32)) o (ix2 a l) = BitVec.ofNat 32 n.val := by
    show Scalar.select (IntOp.cmpi .slt (o (ix2 a l)) 0#32) (o (ix2 a l) + 128#32) (o (ix2 a l)) = _
    rw [h]
    exact wrap_word n
  show x _ = x _
  refine congrArg x (funext fun d => ?_)
  match d with
  | 0 => rfl
  | 1 =>
    refine Fin.ext ?_
    show BitVec.toNat (w := 32) (shapeCast S8x128 (shapeCast S8x128x1 _ shapeCasts_S8x128_S8x128x1) shapeCasts_S8x128x1_S8x128 (ix2 a l)) % 128 = n.val
    rw [e, ew, BitVec.toNat_ofNat]
    omega

/-- A merge, lane by lane: where the mask is set the first operand joined with its partner lane, else the second. -/
theorem mergev_apply (m : IVec S8x128 1) (o A B : IVec S8x128 32) (a : Fin 8) (l n : Fin 128) (p q : Prop) [Decidable p] [Decidable q]
    (ho : o (ix2 a l) = BitVec.ofNat 32 n.val) (hl : m (ix2 a l) = BitVec.ofBool (decide p)) (hn : m (ix2 a n) = BitVec.ofBool (decide q))
    (hpq : q ↔ ¬ p) : mergev m o A B (ix2 a l) = if p then A (ix2 a l) ||| A (ix2 a n) else B (ix2 a l) ||| B (ix2 a n) := by
  have e : mergev m o A B (ix2 a l) = select m A B (ix2 a l) ||| shufv o (select m B A) (ix2 a l) := rfl
  rw [e, shufv_apply o _ a l n ho]
  have e1 : select m A B (ix2 a l) = Scalar.select (m (ix2 a l)) (A (ix2 a l)) (B (ix2 a l)) := rfl
  have e2 : select m B A (ix2 a n) = Scalar.select (m (ix2 a n)) (B (ix2 a n)) (A (ix2 a n)) := rfl
  rw [e1, e2, hl, hn, select_ofBool, select_ofBool]
  by_cases hp : p
  · rw [if_pos hp, if_pos hp, if_neg (fun hq => hpq.mp hq hp)]
  · rw [if_neg hp, if_neg hp, if_pos (hpq.mpr hp)]

/-- The lane number. -/
theorem lanes_apply (a : Fin 8) (l : Fin 128) : lanes (ix2 a l) = BitVec.ofNat 32 l.val := iota_single_apply _ _ _ _ _ _

/-- The four lane tables. -/
theorem w699 : ∀ l : Fin 128, (BitVec.ofNat 32 l.val &&& 3#32) * 2#32 = BitVec.ofNat 32 (2 * (l.val % 4)) := by decide +kernel
theorem w700 : ∀ l : Fin 128, BitVec.ofNat 32 l.val ^^^ 1#32 = BitVec.ofNat 32 (l.val ^^^ 1) := by decide +kernel
theorem w701 : ∀ l : Fin 128, BitVec.ofNat 32 l.val ^^^ 2#32 = BitVec.ofNat 32 (l.val ^^^ 2) := by decide +kernel
theorem w702 : ∀ l : Fin 128, IntOp.ori (IntOp.shli .vector (IntOp.andi (BitVec.ofNat 32 l.val) 31#32) 2#32) (IntOp.shrsi .vector (BitVec.ofNat 32 l.val) 5#32)
    = BitVec.ofNat 32 (4 * (l.val % 32) + l.val / 32) := by decide +kernel
theorem wshl (s : Fin 4) (w : BitVec 32) : IntOp.shli .vector w (BitVec.ofNat 32 (2 * s.val)) = w <<< (2 * s.val) := by
  match s with
  | 0 => rfl
  | 1 => rfl
  | 2 => rfl
  | 3 => rfl
theorem m31 : ∀ l : Fin 128, IntOp.cmpi .eq (BitVec.ofNat 32 l.val &&& 1#32) 0#32 = BitVec.ofBool (decide (l.val % 2 = 0)) := by decide +kernel
theorem m32 : ∀ l : Fin 128, IntOp.cmpi .eq (BitVec.ofNat 32 l.val &&& 2#32) 0#32 = BitVec.ofBool (decide (l.val / 2 % 2 = 0)) := by decide +kernel

/-- The code words, shifted by the lane's place in its group of four. -/
theorem shl_apply (A : IVec S8x128 32) (a : Fin 8) (l : Fin 128) (s : Fin 4) (h : s.val = l.val % 4) :
    shli A k1_pay699 (ix2 a l) = A (ix2 a l) <<< (2 * s.val) := by
  have e : shli A k1_pay699 (ix2 a l) = IntOp.shli .vector (A (ix2 a l)) ((lanes (ix2 a l) &&& 3#32) * 2#32) := rfl
  rw [e, lanes_apply, w699, ← h, wshl]

/-- Lane `s` of group `g` of four lanes. -/
def ln (g : Fin 32) (s : Fin 4) : Fin 128 := ⟨4 * g.val + s.val, by have := g.isLt; have := s.isLt; omega⟩
/-- The partner in the pair, and in the group. -/
def x1 : Fin 4 → Fin 4 := ![1, 0, 3, 2]
def x2 : Fin 4 → Fin 4 := ![2, 3, 0, 1]
theorem ln_x1 : ∀ (g : Fin 32) (s : Fin 4), (ln g s).val ^^^ 1 = (ln g (x1 s)).val := by decide +kernel
theorem ln_x2 : ∀ (g : Fin 32) (s : Fin 4), (ln g s).val ^^^ 2 = (ln g (x2 s)).val := by decide +kernel
theorem ln_p1 : ∀ (g : Fin 32) (s : Fin 4), decide ((ln g s).val % 2 = 0) = decide (s.val % 2 = 0) := by decide +kernel
theorem ln_p2 : ∀ (g : Fin 32) (s : Fin 4), decide ((ln g s).val / 2 % 2 = 0) = decide (s.val / 2 % 2 = 0) := by decide +kernel
theorem x1_p : ∀ s : Fin 4, (x1 s).val % 2 = 0 ↔ ¬ s.val % 2 = 0 := by decide +kernel
theorem x2_p : ∀ s : Fin 4, (x2 s).val / 2 % 2 = 0 ↔ ¬ s.val / 2 % 2 = 0 := by decide +kernel

theorem pay31_apply (a : Fin 8) (g : Fin 32) (s : Fin 4) : k1_pay31 lanes (ix2 a (ln g s)) = BitVec.ofBool (decide (s.val % 2 = 0)) := by
  have e : k1_pay31 lanes (ix2 a (ln g s)) = IntOp.cmpi .eq (lanes (ix2 a (ln g s)) &&& 1#32) 0#32 := rfl
  rw [e, lanes_apply, m31, ln_p1]
theorem pay32_apply (a : Fin 8) (g : Fin 32) (s : Fin 4) : k1_pay32 lanes (ix2 a (ln g s)) = BitVec.ofBool (decide (s.val / 2 % 2 = 0)) := by
  have e : k1_pay32 lanes (ix2 a (ln g s)) = IntOp.cmpi .eq (lanes (ix2 a (ln g s)) &&& 2#32) 0#32 := rfl
  rw [e, lanes_apply, m32, ln_p2]
theorem pay700_apply (a : Fin 8) (g : Fin 32) (s : Fin 4) : k1_pay700 (ix2 a (ln g s)) = BitVec.ofNat 32 (ln g (x1 s)).val := by
  have e : k1_pay700 (ix2 a (ln g s)) = lanes (ix2 a (ln g s)) ^^^ 1#32 := rfl
  rw [e, lanes_apply, w700, ln_x1]
theorem pay701_apply (a : Fin 8) (g : Fin 32) (s : Fin 4) : k1_pay701 (ix2 a (ln g s)) = BitVec.ofNat 32 (ln g (x2 s)).val := by
  have e : k1_pay701 (ix2 a (ln g s)) = lanes (ix2 a (ln g s)) ^^^ 2#32 := rfl
  rw [e, lanes_apply, w701, ln_x2]

/-- The first merge: pairs of lanes joined, of the first operand in even lanes and of the second in odd ones. -/
theorem merge1 (A B : IVec S8x128 32) (a : Fin 8) (g : Fin 32) (s : Fin 4) :
    mergev (k1_pay31 lanes) k1_pay700 A B (ix2 a (ln g s)) = if s.val % 2 = 0 then A (ix2 a (ln g s)) ||| A (ix2 a (ln g (x1 s)))
      else B (ix2 a (ln g s)) ||| B (ix2 a (ln g (x1 s))) :=
  mergev_apply _ _ A B a (ln g s) (ln g (x1 s)) _ _ (pay700_apply a g s) (pay31_apply a g s) (pay31_apply a g (x1 s)) (x1_p s)
/-- The second merge: pairs of pairs. -/
theorem merge2 (A B : IVec S8x128 32) (a : Fin 8) (g : Fin 32) (s : Fin 4) :
    mergev (k1_pay32 lanes) k1_pay701 A B (ix2 a (ln g s)) = if s.val / 2 % 2 = 0 then A (ix2 a (ln g s)) ||| A (ix2 a (ln g (x2 s)))
      else B (ix2 a (ln g s)) ||| B (ix2 a (ln g (x2 s))) :=
  mergev_apply _ _ A B a (ln g s) (ln g (x2 s)) _ _ (pay701_apply a g s) (pay32_apply a g s) (pay32_apply a g (x2 s)) (x2_p s)

/-- The merged word at lane `s` of group `g`: chunk `s`'s four codes of the group. -/
theorem merged (W : Fin 4 → IVec S8x128 32) (a : Fin 8) (g : Fin 32) (s : Fin 4) :
    mergev (k1_pay32 lanes) k1_pay701
      (mergev (k1_pay31 lanes) k1_pay700 (shli (W 0) k1_pay699) (shli (W 1) k1_pay699))
      (mergev (k1_pay31 lanes) k1_pay700 (shli (W 2) k1_pay699) (shli (W 3) k1_pay699)) (ix2 a (ln g s))
      = W s (ix2 a (ln g 0)) <<< 0 ||| W s (ix2 a (ln g 1)) <<< 2 ||| W s (ix2 a (ln g 2)) <<< 4 ||| W s (ix2 a (ln g 3)) <<< 6 := by
  have hs (A : IVec S8x128 32) (i : Fin 4) : shli A k1_pay699 (ix2 a (ln g i)) = A (ix2 a (ln g i)) <<< (2 * i.val) :=
    shl_apply A a (ln g i) i (by have := i.isLt; show i.val = (4 * g.val + i.val) % 4; omega)
  have or4 (p q r t : BitVec 32) : (p ||| q) ||| (r ||| t) = p ||| q ||| r ||| t := by ac_rfl
  rw [merge2, merge1, merge1, merge1, merge1]
  simp only [hs]
  match s with
  | 0 => exact or4 _ _ _ _
  | 1 =>
    show (W 1 (ix2 a (ln g 1)) <<< 2 ||| W 1 (ix2 a (ln g 0)) <<< 0) ||| (W 1 (ix2 a (ln g 3)) <<< 6 ||| W 1 (ix2 a (ln g 2)) <<< 4) = _
    ac_rfl
  | 2 =>
    show (W 2 (ix2 a (ln g 2)) <<< 4 ||| W 2 (ix2 a (ln g 3)) <<< 6) ||| (W 2 (ix2 a (ln g 0)) <<< 0 ||| W 2 (ix2 a (ln g 1)) <<< 2) = _
    ac_rfl
  | 3 =>
    show (W 3 (ix2 a (ln g 3)) <<< 6 ||| W 3 (ix2 a (ln g 2)) <<< 4) ||| (W 3 (ix2 a (ln g 1)) <<< 2 ||| W 3 (ix2 a (ln g 0)) <<< 0) = _
    ac_rfl

/-- The words the packing stores: lane `p` holds group `p % 32` of chunk `p / 32`. -/
theorem packed_word (W : Fin 4 → IVec S8x128 32) (a : Fin 8) (p : Fin 128) (s : Fin 4) (g : Fin 32) (hs : s.val = p.val / 32) (hg : g.val = p.val % 32) :
    shufv k1_pay702 (mergev (k1_pay32 lanes) k1_pay701
      (mergev (k1_pay31 lanes) k1_pay700 (shli (W 0) k1_pay699) (shli (W 1) k1_pay699))
      (mergev (k1_pay31 lanes) k1_pay700 (shli (W 2) k1_pay699) (shli (W 3) k1_pay699))) (ix2 a p)
      = W s (ix2 a (ln g 0)) <<< 0 ||| W s (ix2 a (ln g 1)) <<< 2 ||| W s (ix2 a (ln g 2)) <<< 4 ||| W s (ix2 a (ln g 3)) <<< 6 := by
  rw [shufv_apply _ _ a p (ln g s) ?_, merged]
  have e : k1_pay702 (ix2 a p) = IntOp.ori (IntOp.shli .vector (IntOp.andi (lanes (ix2 a p)) 31#32) 2#32) (IntOp.shrsi .vector (lanes (ix2 a p)) 5#32) := rfl
  rw [e, lanes_apply, w702]
  show BitVec.ofNat 32 (4 * (p.val % 32) + p.val / 32) = BitVec.ofNat 32 (4 * g.val + s.val)
  rw [hs, hg]

/-- A word of four bytes, shifted by less than a byte, read byte by byte, where each byte has only its two low bits. -/
theorem byte_shl (w : BitVec 32) (c : Fin 4 → BitVec 8) (hw : ∀ (b : Fin 4) (q : ℕ), q < 8 → w.getLsbD (8 * b.val + q) = (c b).getLsbD q)
    (hc : ∀ b q, 2 ≤ q → (c b).getLsbD q = false) (s : ℕ) (hs : s ≤ 6) (b : Fin 4) (q : ℕ) (hq : q < 8) :
    (w <<< s).getLsbD (8 * b.val + q) = (c b <<< s).getLsbD q := by
  have hb := b.isLt
  rw [BitVec.getLsbD_shiftLeft, BitVec.getLsbD_shiftLeft]
  by_cases h : q < s
  · have r : (decide (q < 8) && !decide (q < s) && (c b).getLsbD (q - s)) = false := by simp [h]
    rw [r]
    by_cases h2 : 8 * b.val + q < s
    · simp [h2]
    · have : b.val ≠ 0 := by intro h0; omega
      have e := hw ⟨b.val - 1, by omega⟩ (8 + q - s) (by omega)
      rw [show 8 * (⟨b.val - 1, by omega⟩ : Fin 4).val + (8 + q - s) = 8 * b.val + q - s by
        show 8 * (b.val - 1) + (8 + q - s) = _; omega] at e
      rw [e, hc _ _ (by omega), Bool.and_false]
  · have h2 : ¬ 8 * b.val + q < s := by omega
    have h3 : 8 * b.val + q < 32 := by omega
    rw [show 8 * b.val + q - s = 8 * b.val + (q - s) by omega, hw b (q - s) (by omega)]
    simp [h, h2, h3, hq]

/-- A ternary value's two-bit code. -/
def cb (z : ℤ) : BitVec 8 := BitVec.ofInt 8 (z + 1)
/-- Four codes in a byte. -/
def pk (z : Fin 4 → ℤ) : BitVec 8 := cb (z 0) <<< 0 ||| cb (z 1) <<< 2 ||| cb (z 2) <<< 4 ||| cb (z 3) <<< 6

/-- Words read as bytes: byte row `ρ` is byte `ρ % 4` of word row `ρ / 4`. -/
theorem bytes_apply (x : IVec S8x128 32) (ρ : Fin 32) (l : Fin 128) (q : ℕ) (hq : q < 8) :
    (bitcast S32x128 8 x bitcasts_S8x128_w32_S32x128_w8 (ix2 ρ l)).getLsbD q
      = (x (ix2 ⟨ρ.val / 4, by omega⟩ l)).getLsbD (8 * (ρ.val % 4) + q) := by
  rw [bitcast_getLsbD x _ _ q hq (by decide)]
  have hr : (S32x128.row (ix2 ρ l)) = ρ.val := rfl
  rw [show (S32x128.row (ix2 ρ l) * 8 + q) % 32 = 8 * (ρ.val % 4) + q by rw [hr]; omega]
  refine congrArg (fun v => BitVec.getLsbD v _) (congrArg x (funext fun d => ?_))
  match d with
  | ⟨0, _⟩ => exact Fin.ext ((Shape.Bitcasts.srcIdx_row _ _ _ _ ⟨0, Nat.zero_lt_two⟩ rfl).trans (by rw [hr]; show _ = ρ.val / 4; omega))
  | ⟨1, _⟩ => exact Fin.ext (Shape.Bitcasts.srcIdx_other _ _ _ _ ⟨1, Nat.one_lt_two⟩ (by show ¬ 1 + 2 = 2; omega))

/-- A code has only its two low bits. -/
theorem cb_low (z : ℤ) (hz : z = 1 ∨ z = -1 ∨ z = 0) (q : ℕ) (hq : 2 ≤ q) : (cb z).getLsbD q = false := by
  by_cases h8 : 8 ≤ q
  · exact BitVec.getLsbD_of_ge _ _ h8
  · rcases hz with rfl | rfl | rfl <;> interval_cases q <;> rfl

/-- The ternary value plus one, as a byte, is the code. -/
theorem code_byte (z : ℤ) (hz : z = 1 ∨ z = -1 ∨ z = 0) :
    BitVec.setWidth 8 (Ideal.fptosi 32 (((z : ℝ) : EReal) + 1)) = cb z := by
  have e : ((z : ℝ) : EReal) + 1 = (((z + 1 : ℤ) : ℝ) : EReal) := by push_cast; rfl
  rw [e, Ideal.fptosi, Ideal.toIntClamped_coe, Int.floor_intCast, Int.ceil_intCast, ite_self]
  rcases hz with rfl | rfl | rfl <;> rfl

/-- The code words of a chunk: byte `b` of word row `a` is the code of row `4 a + b`. -/
theorem cdv_apply (g : FVec Ideal S32x1 .f32) (w : Vec Ideal S32x128 .bf16) (a : Fin 8) (l : Fin 128) (b : Fin 4) (q : ℕ) (hq : q < 8)
    (ρ : Fin 32) (hρ : ρ.val = 4 * a.val + b.val) :
    (cdv g w (ix2 a l)).getLsbD (8 * b.val + q) = (cb (ternZ (g (ix2 ρ 0)) (w (ix2 ρ l)))).getLsbD q := by
  have hb := b.isLt
  have e : cdv g w = bitcast S8x128 32 (trunci 8 (fptosi 32 (addf (tfv g w) (broadcast S32x128 (Scalar.ofBits (F := Ideal) .f32 0x3F800000#32)))) natLt_8_32) bitcasts_S32x128_w8_S8x128_w32 := rfl
  rw [e, bitcast_8_32_getLsbD_ix2 _ _ a l (8 * b.val + q) (by omega) ρ (by omega), show (8 * b.val + q) % 8 = q by omega]
  refine congrArg (fun v => BitVec.getLsbD v q) ?_
  show BitVec.setWidth 8 (Ideal.fptosi 32 (tfv g w (ix2 ρ l) + Ideal.ofBits .f32 0x3F800000#32)) = _
  rw [tfv_apply, lit_one, code_byte _ (ternZ_range _ _)]

/-- The packed bytes of four chunks. -/
theorem packv_apply (g : FVec Ideal S32x1 .f32) (w : Fin 4 → Vec Ideal S32x128 .bf16) (ρ : Fin 32) (p : Fin 128) (s : Fin 4) (u : Fin 32)
    (hs : s.val = p.val / 32) (hu : u.val = p.val % 32) :
    packv lanes (cdv g (w 0)) (cdv g (w 1)) (cdv g (w 2)) (cdv g (w 3)) (ix2 ρ p)
      = pk fun i => ternZ (g (ix2 ρ 0)) (w s (ix2 ρ (ln u i))) := by
  have hρ := ρ.isLt
  apply BitVec.eq_of_getLsbD_eq
  intro q hq
  unfold packv
  rw [bytes_apply _ ρ p q hq, packed_word (fun j => cdv g (w j)) _ p s u hs hu]
  have key (i : Fin 4) (t : ℕ) (ht : t ≤ 6) :
      (cdv g (w s) (ix2 ⟨ρ.val / 4, by omega⟩ (ln u i)) <<< t).getLsbD (8 * (ρ.val % 4) + q)
        = (cb (ternZ (g (ix2 ρ 0)) (w s (ix2 ρ (ln u i)))) <<< t).getLsbD q := by
    have hb : ρ.val % 4 < 4 := by omega
    have h := byte_shl (cdv g (w s) (ix2 ⟨ρ.val / 4, by omega⟩ (ln u i)))
      (fun b => cb (ternZ (g (ix2 ⟨4 * (ρ.val / 4) + b.val, by have := b.isLt; omega⟩ 0)) (w s (ix2 ⟨4 * (ρ.val / 4) + b.val, by have := b.isLt; omega⟩ (ln u i)))))
      (fun b q hq => cdv_apply g (w s) _ _ b q hq _ rfl) (fun b q hq => cb_low _ (ternZ_range _ _) q hq) t ht ⟨ρ.val % 4, hb⟩ q hq
    have er : (⟨4 * (ρ.val / 4) + (⟨ρ.val % 4, hb⟩ : Fin 4).val, by show 4 * (ρ.val / 4) + ρ.val % 4 < 32; omega⟩ : Fin 32) = ρ :=
      Fin.ext (by show 4 * (ρ.val / 4) + ρ.val % 4 = ρ.val; omega)
    rw [er] at h
    exact h
  unfold pk
  simp only [BitVec.getLsbD_or]
  rw [key 0 0 (by omega), key 1 2 (by omega), key 2 4 (by omega), key 3 6 (by omega)]

/-- Four columns from `4 q` on. -/
def c4 (q : Fin 4096) (i : Fin 4) : Fin 16384 := ⟨4 * q.val + i.val, by have := q.isLt; have := i.isLt; omega⟩

/-- The block of packed bytes. -/
theorem wpB_apply (X : Vec Ideal S256x16384 .bf16) (r : Fin 256) (q : Fin 4096) :
    wpB lanes X (ix2 r q) = pk fun i => ternZ (rowG fun j => X (ix2 r j)) (X (ix2 r (c4 q i))) := by
  have hq := q.isLt
  have hk : r.val / 32 < k1_t1_loop.trips := by rw [trips1_eq]; omega
  have e : wpB lanes X (ix2 r q) = packv lanes (cdv (gam X ⟨r.val / 32, hk⟩) (wl X ⟨r.val / 32, hk⟩ (Fin.ofNat 128 (4 * (q.val / 128)))))
      (cdv (gam X ⟨r.val / 32, hk⟩) (wl X ⟨r.val / 32, hk⟩ (Fin.ofNat 128 (4 * (q.val / 128) + 1))))
      (cdv (gam X ⟨r.val / 32, hk⟩) (wl X ⟨r.val / 32, hk⟩ (Fin.ofNat 128 (4 * (q.val / 128) + 2))))
      (cdv (gam X ⟨r.val / 32, hk⟩) (wl X ⟨r.val / 32, hk⟩ (Fin.ofNat 128 (4 * (q.val / 128) + 3))))
      (ix2 ⟨r.val % 32, by omega⟩ ⟨q.val % 128, by omega⟩) := by
    unfold wpB tiled
    refine congrArg (packv _ _ _ _ _) (funext fun a => ?_)
    match a with
    | 0 => rfl
    | 1 => rfl
  refine e.trans ((packv_apply (gam X ⟨r.val / 32, hk⟩) (fun j => wl X ⟨r.val / 32, hk⟩ (Fin.ofNat 128 (4 * (q.val / 128) + j.val)))
    ⟨r.val % 32, by omega⟩ ⟨q.val % 128, by omega⟩ ⟨q.val % 128 / 32, by omega⟩ ⟨q.val % 128 % 32, by omega⟩ rfl rfl).trans ?_)
  refine congrArg pk (funext fun i => ?_)
  have hi := i.isLt
  rw [gam_apply, wl_apply, ix_slab ⟨r.val / 32, hk⟩ r rfl _ rfl]
  refine congrArg (fun c => ternZ _ (X (ix2 r c))) (Fin.ext ?_)
  show 128 * ((4 * (q.val / 128) + q.val % 128 / 32) % 128) + (4 * (q.val % 128 % 32) + i.val) = 4 * q.val + i.val
  omega
end Cert.KernelIdeal.Run
-- ==== Proof.Mm.lean ====
module

public import proofs.«01_k».proof.Proof.Blk

/-! The other blocks over the extended reals, element by element: the accumulated products and the scaled output of the
    weight kernel, and the scales and codes of the activation kernel. -/

@[expose] public section
set_option maxRecDepth 65536
noncomputable section

namespace Cert.KernelIdeal.Run
open Cert.KernelIdeal Cert.KernelIdeal.Gen Cert.Alg
open Idealize.ShloMosaic Idealize.ShloMosaic.ValueIdx
open scoped BigOperators

variable [Cert.KernelIdeal.Facts]

theorem lhs_0 (i : S1024x256.Idx) (q : dot_S1024x2048_S256x2048_S1024x256_1_1_0_0_n_n.contr.Idx) : (dot_S1024x2048_S256x2048_S1024x256_1_1_0_0_n_n.lhsIdx i q 0).val = (i 0).val := by
  unfold DotDims.lhsIdx
  rw [dif_neg (show ¬(0 : Fin S1024x2048.rank) ∈ dot_S1024x2048_S256x2048_S1024x256_1_1_0_0_n_n.lhsBatch by decide), dif_pos (show (0 : Fin S1024x2048.rank) ∈ dot_S1024x2048_S256x2048_S1024x256_1_1_0_0_n_n.lhsNonContracting by decide)]
  rfl
theorem lhs_1 (i : S1024x256.Idx) (q : dot_S1024x2048_S256x2048_S1024x256_1_1_0_0_n_n.contr.Idx) : (dot_S1024x2048_S256x2048_S1024x256_1_1_0_0_n_n.lhsIdx i q 1).val = (q ⟨0, by decide⟩).val :=
  dot_S1024x2048_S256x2048_S1024x256_1_1_0_0_n_n.lhsIdx_val_of_single rfl i q
theorem rhs_0 (i : S1024x256.Idx) (q : dot_S1024x2048_S256x2048_S1024x256_1_1_0_0_n_n.contr.Idx) : (dot_S1024x2048_S256x2048_S1024x256_1_1_0_0_n_n.rhsIdx i q 0).val = (i 1).val := by
  unfold DotDims.rhsIdx
  rw [dif_neg (show ¬(0 : Fin S256x2048.rank) ∈ dot_S1024x2048_S256x2048_S1024x256_1_1_0_0_n_n.rhsBatch by decide), dif_pos (show (0 : Fin S256x2048.rank) ∈ dot_S1024x2048_S256x2048_S1024x256_1_1_0_0_n_n.rhsNonContracting by decide)]
  rfl
theorem rhs_1 (i : S1024x256.Idx) (q : dot_S1024x2048_S256x2048_S1024x256_1_1_0_0_n_n.contr.Idx) : (dot_S1024x2048_S256x2048_S1024x256_1_1_0_0_n_n.rhsIdx i q 1).val = (q ⟨0, by decide⟩).val :=
  dot_S1024x2048_S256x2048_S1024x256_1_1_0_0_n_n.rhsIdx_val_of_single rfl i q

/-- A signed byte as an extended real. -/
def bR (b : BitVec 8) : EReal := ((b.toInt : ℝ) : EReal)

/-- One trip of the chunk loop, element by element. -/
theorem pay705_apply (acc : Vec Ideal S1024x256 .f32) (cx : Vec Ideal S1024x2048 .i8) (tx : Vec Ideal S256x2048 .bf16) (i : Fin 1024) (n : Fin 256) :
    k1_pay705 acc cx tx (ix2 i n) = acc (ix2 i n) + ∑ k : Fin 2048, bR (cx (ix2 i k)) * tx (ix2 n k) := by
  unfold k1_pay705
  rw [shapeCast_self, shapeCast_self]
  show acc (ix2 i n) + FloatOps.matmul (F := Ideal) (φ₁ := .bf16) (φ₂ := .bf16) dot_S1024x2048_S256x2048_S1024x256_1_1_0_0_n_n none _ tx (constant S1024x256 .f32 0x00000000#32) (ix2 i n) = _
  rw [Ideal.matmul_constant_zero_apply, ← Equiv.sum_comp (contrEquiv1 dot_S1024x2048_S256x2048_S1024x256_1_1_0_0_n_n 2048 rfl rfl).symm]
  refine congrArg (acc (ix2 i n) + ·) (Finset.sum_congr rfl fun k _ => ?_)
  have hk := contrEquiv1_symm_val dot_S1024x2048_S256x2048_S1024x256_1_1_0_0_n_n 2048 rfl rfl k
  have el : dot_S1024x2048_S256x2048_S1024x256_1_1_0_0_n_n.lhsIdx (ix2 i n) ((contrEquiv1 dot_S1024x2048_S256x2048_S1024x256_1_1_0_0_n_n 2048 rfl rfl).symm k) = ix2 i k := funext fun a => Fin.ext (by
    match a with
    | ⟨0, _⟩ => exact lhs_0 _ _
    | ⟨1, _⟩ => exact (lhs_1 _ _).trans hk)
  have er : dot_S1024x2048_S256x2048_S1024x256_1_1_0_0_n_n.rhsIdx (ix2 i n) ((contrEquiv1 dot_S1024x2048_S256x2048_S1024x256_1_1_0_0_n_n 2048 rfl rfl).symm k) = ix2 n k := funext fun a => Fin.ext (by
    match a with
    | ⟨0, _⟩ => exact rhs_0 _ _
    | ⟨1, _⟩ => exact (rhs_1 _ _).trans hk)
  rw [el, er]
  rfl

theorem off162 : ∀ j : Fin k1_t2_loop.trips, k1_off162 j = ![0, 2048 * j.val] := by decide +kernel
theorem off163 : ∀ j : Fin k1_t2_loop.trips, k1_off163 j = ![0, 2048 * j.val] := by decide +kernel

/-- Column `k` of block `j` of 2048 columns. -/
def bIx (j : Fin 8) (k : Fin 2048) : Fin 16384 := ⟨2048 * j.val + k.val, by have := j.isLt; have := k.isLt; omega⟩

theorem ldx_apply (C : Vec Ideal S1024x16384 .i8) (j : Fin k1_t2_loop.trips) (j' : Fin 8) (h : j'.val = j.val) (i : Fin 1024) (k : Fin 2048) :
    ldx C j (ix2 i k) = C (ix2 i (bIx j' k)) := by
  have e0 := ValueKit.rect_emb_unit_val (s := S1024x16384) (k1_off162 j) S1024x2048.size (k1_off162_inb j) (ix2 i k) 0
  have e1 := ValueKit.rect_emb_unit_val (s := S1024x16384) (k1_off162 j) S1024x2048.size (k1_off162_inb j) (ix2 i k) 1
  unfold ldx
  show C _ = C _
  refine congrArg C (funext fun a => Fin.ext ?_)
  match a with
  | 0 => exact e0.trans ((congrArg (· + i.val) (congrFun (off162 j) 0)).trans (Nat.zero_add _))
  | 1 => exact e1.trans ((congrArg (· + k.val) (congrFun (off162 j) 1)).trans (by show 2048 * j.val + k.val = 2048 * j'.val + k.val; rw [h]))

theorem ldt_apply (T : Vec Ideal S256x16384 .bf16) (j : Fin k1_t2_loop.trips) (j' : Fin 8) (h : j'.val = j.val) (n : Fin 256) (k : Fin 2048) :
    ldt T j (ix2 n k) = T (ix2 n (bIx j' k)) := by
  have e0 := ValueKit.rect_emb_unit_val (s := S256x16384) (k1_off163 j) S256x2048.size (k1_off163_inb j) (ix2 n k) 0
  have e1 := ValueKit.rect_emb_unit_val (s := S256x16384) (k1_off163 j) S256x2048.size (k1_off163_inb j) (ix2 n k) 1
  unfold ldt
  show T _ = T _
  refine congrArg T (funext fun a => Fin.ext ?_)
  match a with
  | 0 => exact e0.trans ((congrArg (· + n.val) (congrFun (off163 j) 0)).trans (Nat.zero_add _))
  | 1 => exact e1.trans ((congrArg (· + k.val) (congrFun (off163 j) 1)).trans (by show 2048 * j.val + k.val = 2048 * j'.val + k.val; rw [h]))

/-- A sum over the columns is the sum of the eight blocks' sums. -/
theorem sum_blocks (f : Fin 16384 → EReal) : ∑ j ∈ Finset.range 8, ∑ k : Fin 2048, f (bIx (Fin.ofNat 8 j) k) = ∑ j, f j := by
  rw [Finset.sum_range fun c => ∑ l : Fin 2048, f (bIx (Fin.ofNat 8 c) l), ← Finset.sum_product']
  refine Finset.sum_bij (fun p _ => bIx p.1 p.2) (fun _ _ => Finset.mem_univ _) ?_ ?_ ?_
  · rintro ⟨a, b⟩ _ ⟨c, d⟩ _ h
    have h' := congrArg Fin.val h
    simp only [bIx] at h'
    exact Prod.ext (Fin.ext (by show a.val = c.val; omega)) (Fin.ext (by show b.val = d.val; omega))
  · intro j _
    exact ⟨(⟨j.val / 2048, by omega⟩, ⟨j.val % 2048, by omega⟩), Finset.mem_product.mpr ⟨Finset.mem_univ _, Finset.mem_univ _⟩,
      Fin.ext (by simp only [bIx]; omega)⟩
  · rintro ⟨a, b⟩ _
    show f (bIx (Fin.ofNat 8 a.val) b) = f (bIx a b)
    rw [show Fin.ofNat 8 a.val = a from Fin.ext (Nat.mod_eq_of_lt a.isLt)]

/-- The accumulator after `n` trips. -/
theorem accB_apply (C : Vec Ideal S1024x16384 .i8) (T : Vec Ideal S256x16384 .bf16) (i : Fin 1024) (n : Fin 256) : ∀ j : ℕ, j ≤ 8 →
    accB k1_pay704 C T j (ix2 i n) = ∑ b ∈ Finset.range j, ∑ k : Fin 2048, bR (C (ix2 i (bIx (Fin.ofNat 8 b) k))) * T (ix2 n (bIx (Fin.ofNat 8 b) k))
  | 0, _ => by
    rw [Finset.range_zero, Finset.sum_empty]
    unfold accB k1_pay704
    rw [shapeCast_self]
    exact Ideal.ofBits_zero_f32
  | j + 1, hj => by
    have hj' : j < k1_t2_loop.trips := by rw [trips2_eq]; omega
    rw [accB, dif_pos hj', pay705_apply, accB_apply C T i n j (by omega), Finset.sum_range_succ]
    refine congrArg (_ + ·) (Finset.sum_congr rfl fun k _ => ?_)
    rw [ldx_apply C ⟨j, hj'⟩ (Fin.ofNat 8 j) (Nat.mod_eq_of_lt (by omega)), ldt_apply T ⟨j, hj'⟩ (Fin.ofNat 8 j) (Nat.mod_eq_of_lt (by omega))]

/-- The accumulator after the chunk loop: the whole product. -/
theorem acc8 (C : Vec Ideal S1024x16384 .i8) (T : Vec Ideal S256x16384 .bf16) (i : Fin 1024) (n : Fin 256) :
    accB k1_pay704 C T 8 (ix2 i n) = ∑ k : Fin 16384, bR (C (ix2 i k)) * T (ix2 n k) :=
  (accB_apply C T i n 8 le_rfl).trans (sum_blocks fun k => bR (C (ix2 i k)) * T (ix2 n k))

/-- The row of gammas: the first column of two square blocks laid in a row. -/
theorem pay706_apply (A B : Vec Ideal S128x128 .f32) (n : Fin 256) (z : Fin 1) :
    k1_pay706 A B (ix2 z n) = if h : n.val < 128 then A (ix2 ⟨n.val, h⟩ 0) else B (ix2 ⟨n.val - 128, by omega⟩ 0) := by
  have hz : z = 0 := Subsingleton.elim _ _
  subst hz
  have ht (M : Vec Ideal S128x128 .f32) (l : Fin 128) :
      extractStridedSlice S1x128 ![0, 0] (transpose S128x128 [1, 0] M transposes_S128x128_p1_0_S128x128) slices_S128x128_o0_0_S1x128 (ix2 0 l) = M (ix2 l 0) := by
    rw [extractStridedSlice_apply _ _ _ (ix2 0 l) (ix2 0 l) (fun a => match a with
        | 0 => rfl
        | 1 => (Nat.zero_add _).symm),
      transpose_apply _ _ _ (ix2 0 l) (ix2 l 0) (fun a => match a with
        | 0 => rfl
        | 1 => rfl)]
  unfold k1_pay706
  rw [shapeCast_self, shapeCast_self]
  by_cases h : n.val < 128
  · rw [dif_pos h, ← ht A ⟨n.val, h⟩]
    exact concatenate_pair_apply_left (t := S1x256) (s₁ := S1x128) (s₂ := S1x128) _ _ _ _ (ix2 (0 : Fin 1) n) rfl (ix2 (0 : Fin 1) (⟨n.val, h⟩ : Fin 128)) (fun b => match b with
      | 0 => rfl
      | 1 => rfl)
  · rw [dif_neg h, ← ht B ⟨n.val - 128, by omega⟩]
    exact concatenate_pair_apply_right (t := S1x256) (s₁ := S1x128) (s₂ := S1x128) _ _ _ _ (ix2 (0 : Fin 1) n) rfl rfl (ix2 (0 : Fin 1) (⟨n.val - 128, by omega⟩ : Fin 128)) (fun b hb => match b with
      | 0 => rfl
      | 1 => absurd rfl hb) (by show n.val - 128 + 128 = n.val; omega)

/-- The output block, element by element. -/
theorem out1_3_apply (x0 : Vec Ideal S256x16384 .bf16) (x1 : Vec Ideal S1024x16384 .i8) (x2 : Vec Ideal S1024x128 .f32) (i : Fin 1024) (n : Fin 256) :
    out1_3 x0 x1 x2 (ix2 i n)
      = ((∑ k : Fin 16384, bR (x1 (ix2 i k)) * (((ternZ (rowG fun j => x0 (ix2 n j)) (x0 (ix2 n k)) : ℤ) : ℝ) : EReal)) * x2 (ix2 i 0))
        * rowG fun j => x0 (ix2 n j) := by
  have hg : k1_pay706 (View.ld (gB x0) r1_5a) (View.ld (gB x0) r1_5b) (ix2 0 n) = rowG fun j => x0 (ix2 n j) := by
    rw [pay706_apply]
    split_ifs with h
    · have e : View.ld (gB x0) r1_5a (ix2 ⟨n.val, h⟩ 0) = gB x0 (ix2 n 0) := by
        have e0 := ValueKit.rect_emb_unit_val (s := S256x128) ![0, 0] S128x128.size inb_S256x128_S128x128_0_0 (ix2 ⟨n.val, h⟩ 0) 0
        show gB x0 _ = gB x0 _
        refine congrArg (gB x0) (funext fun a => Fin.ext ?_)
        match a with
        | 0 => exact e0.trans (Nat.zero_add _)
        | 1 => rfl
      rw [e, gB_apply]
    · have e : View.ld (gB x0) r1_5b (ix2 ⟨n.val - 128, by omega⟩ 0) = gB x0 (ix2 n 0) := by
        have e0 := ValueKit.rect_emb_unit_val (s := S256x128) ![128, 0] S128x128.size inb_S256x128_S128x128_128_0 (ix2 ⟨n.val - 128, by omega⟩ 0) 0
        show gB x0 _ = gB x0 _
        refine congrArg (gB x0) (funext fun a => Fin.ext ?_)
        match a with
        | 0 => exact e0.trans (by show 128 + (n.val - 128) = n.val; omega)
        | 1 => rfl
      rw [e, gB_apply]
  have hs : View.ld x2 r1_0 (ix2 i 0) = x2 (ix2 i 0) := by
    have e0 := ValueKit.rect_emb_unit_val (s := S1024x128) ![0, 0] S1024x1.size inb_S1024x128_S1024x1_0_0 (ix2 i 0) 0
    show x2 _ = x2 _
    refine congrArg x2 (funext fun a => Fin.ext ?_)
    match a with
    | 0 => exact e0.trans (Nat.zero_add _)
    | 1 => rfl
  have ep (g : FVec Ideal S1x256 .f32) (s : Vec Ideal S1024x1 .f32) (acc : Vec Ideal S1024x256 .f32) :
      k1_pay1 g s acc (ix2 i n) = (acc (ix2 i n) * s (ix2 i 0)) * g (ix2 0 n) := by
    unfold k1_pay1
    rw [shapeCast_self]
    show (acc (ix2 i n) * broadcastTo S1024x256 s broadcasts_S1024x1_S1024x256 (ix2 i n)) * broadcastTo S1024x256 g broadcasts_S1x256_S1024x256 (ix2 i n) = _
    rw [broadcastTo_apply s _ (ix2 i n) (ix2 i 0) (fun a => match a with
        | 0 => rfl
        | 1 => rfl),
      broadcastTo_apply g _ (ix2 i n) (ix2 0 n) (fun a => match a with
        | 0 => rfl
        | 1 => rfl)]
  unfold out1_3
  rw [ep, hg, hs, acc8]
  refine congrArg (fun v => v * _ * _) (Finset.sum_congr rfl fun k _ => ?_)
  rw [tB_apply]

/-- The scale of a block's row. -/
theorem pay2_apply (v : Vec Ideal S64x16384 .bf16) (i : Fin 64) (z : Fin 1) :
    k0_pay2 v (ix2 i z) = rowS fun j => v (ix2 i j) := by
  have em : shapeCast S64x1 (multiReduction (F := Ideal) .maximumf [1] S64 (absf v) 0xFF80#16 reduces_S64x16384_S64 (.inr rfl) rfl) shapeCasts_S64_S64x1 (ix2 i z)
      = rowMax fun j => v (ix2 i j) := by
    rw [shapeCast_apply _ _ (ix2 i z) (ix1 i) (by
      rw [Shape.rowMajor_val_one, Shape.rowMajor_val_two]
      show i.val = i.val * 1 + z.val
      omega)]
    refine (Ideal.multiReduction_maximumf_single (a := (1 : Fin S64x16384.rank)) (absf v) (FKind.maximumf.neutral .bf16 (.inr rfl)) reduces_S64x16384_S64 (.inr rfl) rfl (ix1 i)).trans ?_
    unfold rowMax
    rw [← lit_bot16]
    refine congrArg (fun f => (Finset.univ : Finset (Fin 16384)).fold max (Ideal.ofBits .bf16 0xFF80#16) f) (funext fun l => ?_)
    have hl : reduces_S64x16384_S64.lift (ix1 i) l = ix2 i l := by
      funext a
      match a with
      | 0 => rfl
      | 1 => rfl
    show max (v _) (-(v _)) = _
    rw [hl]
    rfl
  have e1 : k0_pay1 v = v := shapeCast_self _ _
  unfold k0_pay2
  rw [e1]
  refine (scale_gen _ (ix2 i z)).trans (congrArg scaleOf ?_)
  rw [extf_apply]
  exact em

/-- A block's code. -/
theorem pay3_apply (v : Vec Ideal S64x16384 .bf16) (i : Fin 64) (j : Fin 16384) :
    k0_pay3 v (ix2 i j) = code (rowS fun j => v (ix2 i j)) (v (ix2 i j)) := by
  have e1 : k0_pay1 v = v := shapeCast_self _ _
  unfold k0_pay3
  rw [e1]
  rw [code_gen (extf .f32 v bitsLt_bf16_f32) (broadcastTo S64x16384 (k0_pay2 v) broadcasts_S64x1_S64x16384) (ix2 i j), broadcastTo_apply _ _ (ix2 i j) (ix2 i 0) (fun a => match a with
    | 0 => rfl
    | 1 => rfl), pay2_apply]
  rfl

/-- A block's scale, in every lane. -/
theorem pay4_apply (v : Vec Ideal S64x16384 .bf16) (i : Fin 64) (l : Fin 128) :
    k0_pay4 v (ix2 i l) = rowS fun j => v (ix2 i j) := by
  unfold k0_pay4
  rw [shapeCast_self, broadcastTo_apply _ _ (ix2 i l) (ix2 i 0) (fun a => match a with
    | 0 => rfl
    | 1 => rfl), pay2_apply]
end Cert.KernelIdeal.Run
-- ==== Proof.Arr.lean ====
module

public import proofs.«01_k».proof.Proof.Run
public import proofs.«01_k».proof.Proof.Pack
public import proofs.«01_k».proof.Proof.Mm
public import Idealize.ShloMosaic.Lib.Pipeline.Value
public import Idealize.ShloMosaic.Lib.Pipeline.ValueKit.Basic

/-! The arrays the two pipelines leave, over the extended reals, as functions of the arrays they read. -/

@[expose] public section
set_option maxRecDepth 65536
noncomputable section

namespace Cert.KernelIdeal.Run
open Cert.KernelIdeal Cert.KernelIdeal.Gen Cert.Alg
open Idealize.ShloMosaic Idealize.ShloMosaic.TcCoe Idealize.ShloMosaic.ValueIdx Idealize.SL.Sem
open Idealize.ShloMosaic.Pipeline (Dat Cfg Window)
open scoped BigOperators

/-- The codes of an activation array. -/
def codesA (X : S1024x16384.Idx → EReal) : S1024x16384.Idx → BitVec 8 := fun i => code (rowS fun j => X (ix2 (i 0) j)) (X i)
/-- The scales of an activation array, in every lane. -/
def scalesA (X : S1024x16384.Idx → EReal) : S1024x128.Idx → EReal := fun i => rowS fun j => X (ix2 (i 0) j)
/-- The gammas of a weight array, in every lane. -/
def gamA (X : S5120x16384.Idx → EReal) : S5120x128.Idx → EReal := fun i => rowG fun j => X (ix2 (i 0) j)
/-- The packed bytes of a weight array. -/
def packA (X : S5120x16384.Idx → EReal) : S5120x4096.Idx → BitVec 8 :=
  fun i => pk fun a => ternZ (rowG fun j => X (ix2 (i 0) j)) (X (ix2 (i 0) (c4 (i 1) a)))
/-- The scaled products of codes and ternary values. -/
def outA (X : S5120x16384.Idx → EReal) (C : S1024x16384.Idx → BitVec 8) (S : S1024x128.Idx → EReal) : S1024x5120.Idx → EReal :=
  fun i => ((∑ k : Fin 16384, bR (C (ix2 (i 0) k)) * (((ternZ (rowG fun j => X (ix2 (i 1) j)) (X (ix2 (i 1) k)) : ℤ) : ℝ) : EReal)) * S (ix2 (i 0) 0))
    * rowG fun j => X (ix2 (i 1) j)

section Region0
variable (V : (c : Dev nD) → (b : Ref sig .tc) → Buf (Elt Ideal) ((c : Thread nD τ).loc b)) (c : Dev nD)

/-- Where each window's block sits at a point. -/
theorem ix0_0 : ∀ t : Fin cfg0.N, win0_0.index t (0 : Fin 2) = t.val ∧ win0_0.index t (1 : Fin 2) = 0 := (by decide +kernel : ∀ t : Fin grid0.N, _)
theorem ix0_1 : ∀ t : Fin cfg0.N, win0_1.index t (0 : Fin 2) = t.val ∧ win0_1.index t (1 : Fin 2) = 0 := (by decide +kernel : ∀ t : Fin grid0.N, _)
theorem ix0_2 : ∀ t : Fin cfg0.N, win0_2.index t (0 : Fin 2) = t.val ∧ win0_2.index t (1 : Fin 2) = 0 := (by decide +kernel : ∀ t : Fin grid0.N, _)
theorem n0 : cfg0.N = 16 := by decide +kernel

/-- Row `i` of block `t` of 64 rows. -/
def row0 (t : Fin cfg0.N) (i : Fin 64) : Fin 1024 := ⟨t.val * 64 + i.val, by have := lt_of_lt_of_eq t.isLt n0; have := i.isLt; omega⟩

theorem emb0_0 (t : Fin cfg0.N) (i : Fin 64) (j : Fin 16384) : ((cfg0.win 0).blk t).view.emb (ix2 i j) = ix2 (row0 t i) j := by
  obtain ⟨e0, e1⟩ := ix0_0 t
  funext a; apply Fin.ext
  match a with
  | ⟨0, _⟩ => show win0_0.index t (0 : Fin 2) * 64 + 1 * i.val = t.val * 64 + i.val; omega
  | ⟨1, _⟩ => show win0_0.index t (1 : Fin 2) * 16384 + 1 * j.val = j.val; omega
theorem emb0_1 (t : Fin cfg0.N) (i : Fin 64) (j : Fin 16384) : ((cfg0.win 1).blk t).view.emb (ix2 i j) = ix2 (row0 t i) j := by
  obtain ⟨e0, e1⟩ := ix0_1 t
  funext a; apply Fin.ext
  match a with
  | ⟨0, _⟩ => show win0_1.index t (0 : Fin 2) * 64 + 1 * i.val = t.val * 64 + i.val; omega
  | ⟨1, _⟩ => show win0_1.index t (1 : Fin 2) * 16384 + 1 * j.val = j.val; omega
theorem emb0_2 (t : Fin cfg0.N) (i : Fin 64) (j : Fin 128) : ((cfg0.win 2).blk t).view.emb (ix2 i j) = ix2 (row0 t i) j := by
  obtain ⟨e0, e1⟩ := ix0_2 t
  funext a; apply Fin.ext
  match a with
  | ⟨0, _⟩ => show win0_2.index t (0 : Fin 2) * 64 + 1 * i.val = t.val * 64 + i.val; omega
  | ⟨1, _⟩ => show win0_2.index t (1 : Fin 2) * 128 + 1 * j.val = j.val; omega

/-- The block of the activation array. -/
theorem iblk0_apply (t : Fin cfg0.N) (i : Fin 64) (j : Fin 16384) :
    iblk0 V c 0 t (ix2 i j) = V c main_v0 (ix2 (row0 t i) j) := by
  show V c main_v0 (((cfg0.win 0).blk t).view.emb (ix2 i j)) = _
  rw [emb0_0]

theorem zero2 : (![0, 0] : Fin 2 → ℕ) = fun _ => 0 := by decide +kernel

/-- What the body leaves, at an index. -/
theorem out0_1_eq (x0 : Vec Ideal S64x16384 .bf16) : out0_1 x0 = k0_pay3 x0 := by
  unfold out0_1
  rw [View.ld_unit_zero (by decide +kernel)]
  exact View.canon_cons_unit_lit (Val := Elt Ideal) _ _ _ (by decide +kernel)
theorem out0_2_eq (x0 : Vec Ideal S64x16384 .bf16) : out0_2 x0 = k0_pay4 x0 := by
  unfold out0_2
  rw [View.ld_unit_zero (by decide +kernel)]
  exact View.canon_cons_unit_lit (Val := Elt Ideal) _ _ _ (by decide +kernel)

/-- The array of codes. -/
theorem final0_1 : (dat0 V c).arrAt 1 cfg0.N = codesA (V c main_v0) :=
  (dat0 V c).arrAt_eq_of_cover 1 (codesA (V c main_v0)) (fun t _ => by
    show (cfg0.win 1).cut (grid0.coords t) ((dat0 V c).after 1 t) = _
    rw [after0_1, out0_1_eq]
    funext y
    obtain ⟨i, j, rfl⟩ : ∃ (i : Fin 64) (j : Fin 16384), y = ix2 i j := ⟨_, _, eq_ix2 y⟩
    show k0_pay3 (iblk0 V c 0 t) (ix2 i j) = codesA (V c main_v0) (((cfg0.win 1).blk t).view.emb (ix2 i j))
    rw [emb0_1, pay3_apply]
    simp only [iblk0_apply]
    rfl) (fun y => by
    obtain ⟨p, q, rfl⟩ : ∃ (p : Fin 1024) (q : Fin 16384), y = ix2 p q := ⟨_, _, eq_ix2 y⟩
    have hy := p.isLt
    refine ⟨⟨p.val / 64, lt_of_lt_of_eq (by omega) n0.symm⟩, flush0_1 _, ?_⟩
    have h := ((cfg0.win 1).blk ⟨p.val / 64, lt_of_lt_of_eq (by omega) n0.symm⟩).view.emb_mem_set (ix2 (⟨p.val % 64, by omega⟩ : Fin 64) q)
    rw [emb0_1] at h
    convert h using 1
    funext a; apply Fin.ext
    match a with
    | ⟨0, _⟩ => show p.val = p.val / 64 * 64 + p.val % 64; omega
    | ⟨1, _⟩ => rfl)

/-- The array of scales. -/
theorem final0_2 : (dat0 V c).arrAt 2 cfg0.N = scalesA (V c main_v0) :=
  (dat0 V c).arrAt_eq_of_cover 2 (scalesA (V c main_v0)) (fun t _ => by
    show (cfg0.win 2).cut (grid0.coords t) ((dat0 V c).after 2 t) = _
    rw [after0_2, out0_2_eq]
    funext y
    obtain ⟨i, j, rfl⟩ : ∃ (i : Fin 64) (j : Fin 128), y = ix2 i j := ⟨_, _, eq_ix2 y⟩
    show k0_pay4 (iblk0 V c 0 t) (ix2 i j) = scalesA (V c main_v0) (((cfg0.win 2).blk t).view.emb (ix2 i j))
    rw [emb0_2, pay4_apply]
    simp only [iblk0_apply]
    rfl) (fun y => by
    obtain ⟨p, q, rfl⟩ : ∃ (p : Fin 1024) (q : Fin 128), y = ix2 p q := ⟨_, _, eq_ix2 y⟩
    have hy := p.isLt
    refine ⟨⟨p.val / 64, lt_of_lt_of_eq (by omega) n0.symm⟩, flush0_2 _, ?_⟩
    have h := ((cfg0.win 2).blk ⟨p.val / 64, lt_of_lt_of_eq (by omega) n0.symm⟩).view.emb_mem_set (ix2 (⟨p.val % 64, by omega⟩ : Fin 64) q)
    rw [emb0_2] at h
    convert h using 1
    funext a; apply Fin.ext
    match a with
    | ⟨0, _⟩ => show p.val = p.val / 64 * 64 + p.val % 64; omega
    | ⟨1, _⟩ => rfl)
end Region0

section Region1
variable (V : (c : Dev nD) → (b : Ref sig .tc) → Buf (Elt Ideal) ((c : Thread nD τ).loc b)) (c : Dev nD)

theorem ix1_0 : ∀ t : Fin cfg1.N, win1_0.index t (0 : Fin 2) = t.val ∧ win1_0.index t (1 : Fin 2) = 0 := (by decide +kernel : ∀ t : Fin grid1.N, _)
theorem ix1_1 : ∀ t : Fin cfg1.N, win1_1.index t (0 : Fin 2) = 0 ∧ win1_1.index t (1 : Fin 2) = 0 := (by decide +kernel : ∀ t : Fin grid1.N, _)
theorem ix1_2 : ∀ t : Fin cfg1.N, win1_2.index t (0 : Fin 2) = 0 ∧ win1_2.index t (1 : Fin 2) = 0 := (by decide +kernel : ∀ t : Fin grid1.N, _)
theorem ix1_3 : ∀ t : Fin cfg1.N, win1_3.index t (0 : Fin 2) = 0 ∧ win1_3.index t (1 : Fin 2) = t.val := (by decide +kernel : ∀ t : Fin grid1.N, _)
theorem ix1_4 : ∀ t : Fin cfg1.N, win1_4.index t (0 : Fin 2) = t.val ∧ win1_4.index t (1 : Fin 2) = 0 := (by decide +kernel : ∀ t : Fin grid1.N, _)
theorem ix1_5 : ∀ t : Fin cfg1.N, win1_5.index t (0 : Fin 2) = t.val ∧ win1_5.index t (1 : Fin 2) = 0 := (by decide +kernel : ∀ t : Fin grid1.N, _)
theorem n1 : cfg1.N = 20 := by decide +kernel

/-- Row `i` of block `t` of 256 rows. -/
def row1 (t : Fin cfg1.N) (i : Fin 256) : Fin 5120 := ⟨t.val * 256 + i.val, by have := lt_of_lt_of_eq t.isLt n1; have := i.isLt; omega⟩

theorem emb1_0 (t : Fin cfg1.N) (i : Fin 256) (j : Fin 16384) : ((cfg1.win 0).blk t).view.emb (ix2 i j) = ix2 (row1 t i) j := by
  obtain ⟨e0, e1⟩ := ix1_0 t
  funext a; apply Fin.ext
  match a with
  | ⟨0, _⟩ => show win1_0.index t (0 : Fin 2) * 256 + 1 * i.val = t.val * 256 + i.val; omega
  | ⟨1, _⟩ => show win1_0.index t (1 : Fin 2) * 16384 + 1 * j.val = j.val; omega
theorem emb1_1 (t : Fin cfg1.N) (i : Fin 1024) (j : Fin 16384) : ((cfg1.win 1).blk t).view.emb (ix2 i j) = ix2 (i) j := by
  obtain ⟨e0, e1⟩ := ix1_1 t
  funext a; apply Fin.ext
  match a with
  | ⟨0, _⟩ => show win1_1.index t (0 : Fin 2) * 1024 + 1 * i.val = i.val; omega
  | ⟨1, _⟩ => show win1_1.index t (1 : Fin 2) * 16384 + 1 * j.val = j.val; omega
theorem emb1_2 (t : Fin cfg1.N) (i : Fin 1024) (j : Fin 128) : ((cfg1.win 2).blk t).view.emb (ix2 i j) = ix2 (i) j := by
  obtain ⟨e0, e1⟩ := ix1_2 t
  funext a; apply Fin.ext
  match a with
  | ⟨0, _⟩ => show win1_2.index t (0 : Fin 2) * 1024 + 1 * i.val = i.val; omega
  | ⟨1, _⟩ => show win1_2.index t (1 : Fin 2) * 128 + 1 * j.val = j.val; omega
theorem emb1_3 (t : Fin cfg1.N) (i : Fin 1024) (j : Fin 256) : ((cfg1.win 3).blk t).view.emb (ix2 i j) = ix2 (i) (row1 t j) := by
  obtain ⟨e0, e1⟩ := ix1_3 t
  funext a; apply Fin.ext
  match a with
  | ⟨0, _⟩ => show win1_3.index t (0 : Fin 2) * 1024 + 1 * i.val = i.val; omega
  | ⟨1, _⟩ => show win1_3.index t (1 : Fin 2) * 256 + 1 * j.val = t.val * 256 + j.val; omega
theorem emb1_4 (t : Fin cfg1.N) (i : Fin 256) (j : Fin 4096) : ((cfg1.win 4).blk t).view.emb (ix2 i j) = ix2 (row1 t i) j := by
  obtain ⟨e0, e1⟩ := ix1_4 t
  funext a; apply Fin.ext
  match a with
  | ⟨0, _⟩ => show win1_4.index t (0 : Fin 2) * 256 + 1 * i.val = t.val * 256 + i.val; omega
  | ⟨1, _⟩ => show win1_4.index t (1 : Fin 2) * 4096 + 1 * j.val = j.val; omega
theorem emb1_5 (t : Fin cfg1.N) (i : Fin 256) (j : Fin 128) : ((cfg1.win 5).blk t).view.emb (ix2 i j) = ix2 (row1 t i) j := by
  obtain ⟨e0, e1⟩ := ix1_5 t
  funext a; apply Fin.ext
  match a with
  | ⟨0, _⟩ => show win1_5.index t (0 : Fin 2) * 256 + 1 * i.val = t.val * 256 + i.val; omega
  | ⟨1, _⟩ => show win1_5.index t (1 : Fin 2) * 128 + 1 * j.val = j.val; omega

/-- The blocks the second pipeline reads. -/
theorem iblk1_0_apply (t : Fin cfg1.N) (i : Fin 256) (j : Fin 16384) :
    iblk1 V c 0 t (ix2 i j) = V c main_arg1 (ix2 (row1 t i) j) := by
  show V c main_arg1 (((cfg1.win 0).blk t).view.emb (ix2 i j)) = _
  rw [emb1_0]
theorem iblk1_1_apply (t : Fin cfg1.N) (i : Fin 1024) (j : Fin 16384) :
    iblk1 V c 1 t (ix2 i j) = V c main_v1_0 (ix2 i j) := by
  show V c main_v1_0 (((cfg1.win 1).blk t).view.emb (ix2 i j)) = _
  rw [emb1_1]
theorem iblk1_2_apply (t : Fin cfg1.N) (i : Fin 1024) (j : Fin 128) :
    iblk1 V c 2 t (ix2 i j) = V c main_v1_1 (ix2 i j) := by
  show V c main_v1_1 (((cfg1.win 2).blk t).view.emb (ix2 i j)) = _
  rw [emb1_2]

/-- The array of outputs. -/
theorem final1_3 : (dat1 V c).arrAt 3 cfg1.N = outA (V c main_arg1) (V c main_v1_0) (V c main_v1_1) :=
  (dat1 V c).arrAt_eq_of_cover 3 (outA (V c main_arg1) (V c main_v1_0) (V c main_v1_1)) (fun t _ => by
    show (cfg1.win 3).cut (grid1.coords t) ((dat1 V c).after 3 t) = _
    rw [after1_3]
    funext y
    obtain ⟨i, j, rfl⟩ : ∃ (i : Fin 1024) (j : Fin 256), y = ix2 i j := ⟨_, _, eq_ix2 y⟩
    show out1_3 (iblk1 V c 0 t) (iblk1 V c 1 t) (iblk1 V c 2 t) (ix2 i j)
      = outA (V c main_arg1) (V c main_v1_0) (V c main_v1_1) (((cfg1.win 3).blk t).view.emb (ix2 i j))
    rw [emb1_3, out1_3_apply]
    simp only [iblk1_0_apply, iblk1_1_apply, iblk1_2_apply]
    rfl) (fun y => by
    obtain ⟨p, q, rfl⟩ : ∃ (p : Fin 1024) (q : Fin 5120), y = ix2 p q := ⟨_, _, eq_ix2 y⟩
    have hy := q.isLt
    refine ⟨⟨q.val / 256, lt_of_lt_of_eq (by omega) n1.symm⟩, flush1_3 _, ?_⟩
    have h := ((cfg1.win 3).blk ⟨q.val / 256, lt_of_lt_of_eq (by omega) n1.symm⟩).view.emb_mem_set
      (ix2 p (⟨q.val % 256, by omega⟩ : Fin 256))
    rw [emb1_3] at h
    convert h using 1
    funext a; apply Fin.ext
    match a with
    | ⟨0, _⟩ => rfl
    | ⟨1, _⟩ => show q.val = q.val / 256 * 256 + q.val % 256; omega)

/-- The array of packed bytes. -/
theorem final1_4 : (dat1 V c).arrAt 4 cfg1.N = packA (V c main_arg1) :=
  (dat1 V c).arrAt_eq_of_cover 4 (packA (V c main_arg1)) (fun t _ => by
    show (cfg1.win 4).cut (grid1.coords t) ((dat1 V c).after 4 t) = _
    rw [after1_4]
    funext y
    obtain ⟨i, j, rfl⟩ : ∃ (i : Fin 256) (j : Fin 4096), y = ix2 i j := ⟨_, _, eq_ix2 y⟩
    show wpB lanes (iblk1 V c 0 t) (ix2 i j) = packA (V c main_arg1) (((cfg1.win 4).blk t).view.emb (ix2 i j))
    rw [emb1_4, wpB_apply]
    simp only [iblk1_0_apply]
    rfl) (fun y => by
    obtain ⟨p, q, rfl⟩ : ∃ (p : Fin 5120) (q : Fin 4096), y = ix2 p q := ⟨_, _, eq_ix2 y⟩
    have hy := p.isLt
    refine ⟨⟨p.val / 256, lt_of_lt_of_eq (by omega) n1.symm⟩, flush1_4 _, ?_⟩
    have h := ((cfg1.win 4).blk ⟨p.val / 256, lt_of_lt_of_eq (by omega) n1.symm⟩).view.emb_mem_set
      (ix2 (⟨p.val % 256, by omega⟩ : Fin 256) q)
    rw [emb1_4] at h
    convert h using 1
    funext a; apply Fin.ext
    match a with
    | ⟨0, _⟩ => show p.val = p.val / 256 * 256 + p.val % 256; omega
    | ⟨1, _⟩ => rfl)

/-- The array of gammas. -/
theorem final1_5 : (dat1 V c).arrAt 5 cfg1.N = gamA (V c main_arg1) :=
  (dat1 V c).arrAt_eq_of_cover 5 (gamA (V c main_arg1)) (fun t _ => by
    show (cfg1.win 5).cut (grid1.coords t) ((dat1 V c).after 5 t) = _
    rw [after1_5]
    funext y
    obtain ⟨i, j, rfl⟩ : ∃ (i : Fin 256) (j : Fin 128), y = ix2 i j := ⟨_, _, eq_ix2 y⟩
    show gB (iblk1 V c 0 t) (ix2 i j) = gamA (V c main_arg1) (((cfg1.win 5).blk t).view.emb (ix2 i j))
    rw [emb1_5, gB_apply]
    simp only [iblk1_0_apply]
    rfl) (fun y => by
    obtain ⟨p, q, rfl⟩ : ∃ (p : Fin 5120) (q : Fin 128), y = ix2 p q := ⟨_, _, eq_ix2 y⟩
    have hy := p.isLt
    refine ⟨⟨p.val / 256, lt_of_lt_of_eq (by omega) n1.symm⟩, flush1_5 _, ?_⟩
    have h := ((cfg1.win 5).blk ⟨p.val / 256, lt_of_lt_of_eq (by omega) n1.symm⟩).view.emb_mem_set
      (ix2 (⟨p.val % 256, by omega⟩ : Fin 256) q)
    rw [emb1_5] at h
    convert h using 1
    funext a; apply Fin.ext
    match a with
    | ⟨0, _⟩ => show p.val = p.val / 256 * 256 + p.val % 256; omega
    | ⟨1, _⟩ => rfl)
end Region1
end Cert.KernelIdeal.Run
-- ==== Proof.Kern.lean ====
module

public import proofs.«01_k».proof.Proof.Arr
public import Idealize.ShloMosaic.Lib.StableHlo.Run

/-! What the whole program leaves in its five results, over the extended reals. -/

@[expose] public section
set_option maxRecDepth 65536
noncomputable section

namespace Cert.KernelIdeal.Run
open Cert.KernelIdeal Cert.KernelIdeal.Gen Cert.Alg
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-- The two arguments as launched. -/
abbrev xIn : Vec Ideal S2x512x16384 .bf16 := m ((c.tc : Thread nD τ).loc main_arg0)
abbrev wIn : Vec Ideal S5120x16384 .bf16 := m ((c.tc : Thread nD τ).loc main_arg1)

/-- The activations the first pipeline reads: the first argument, its two leading axes merged. -/
theorem V1_v0 : V1 m ρ c main_v0 = shapeCast S1024x16384 (xIn m c) shapeCasts_S2x512x16384_S1024x16384 := by
  show after hostOps0 (W0 m ρ c) (Proc.devRef .tc main_v0) = _
  simp only [hostOps0]
  after_results_simp <;> rfl

/-- The activations, at an index. -/
theorem V1_v0_apply (a : Fin 2) (b : Fin 512) (k : Fin 16384) (i : Fin 1024) (h : i.val = a.val * 512 + b.val) :
    V1 m ρ c main_v0 (ix2 i k) = xIn m c (ix3 a b k) := by
  rw [V1_v0]
  exact shapeCast_apply _ _ (ix2 i k) (ix3 a b k) (by
    rw [Shape.rowMajor_val_two, Shape.rowMajor_val_three]
    show (a.val * 512 + b.val) * 16384 + k.val = i.val * 16384 + k.val
    omega)

theorem W2_codes : W2 m ρ c (Proc.devRef .tc main_v1_0) = codesA (V1 m ρ c main_v0) :=
  (W2_arr m ρ c 1).trans (final0_1 (V1 m ρ) c)
theorem W2_scales : W2 m ρ c (Proc.devRef .tc main_v1_1) = scalesA (V1 m ρ c main_v0) :=
  (W2_arr m ρ c 2).trans (final0_2 (V1 m ρ) c)
theorem W2_w : W2 m ρ c (Proc.devRef .tc main_arg1) = wIn m c := W2_args m ρ c main_arg1 (by decide)
theorem W3_codes : W3 m ρ c (Proc.devRef .tc main_v1_0) = codesA (V1 m ρ c main_v0) :=
  (W3_of m ρ c main_v1_0 (by decide)).trans (W2_codes m ρ c)
theorem W3_scales : W3 m ρ c (Proc.devRef .tc main_v1_1) = scalesA (V1 m ρ c main_v0) :=
  (W3_of m ρ c main_v1_1 (by decide)).trans (W2_scales m ρ c)
theorem W3_out : W3 m ρ c (Proc.devRef .tc main_v2_0) = outA (wIn m c) (codesA (V1 m ρ c main_v0)) (scalesA (V1 m ρ c main_v0)) := by
  refine (W3_arr m ρ c 3).trans ((final1_3 (V2 m ρ) c).trans ?_)
  show outA (W2 m ρ c (Proc.devRef .tc main_arg1)) (W2 m ρ c (Proc.devRef .tc main_v1_0)) (W2 m ρ c (Proc.devRef .tc main_v1_1)) = _
  rw [W2_w, W2_codes, W2_scales]
theorem W3_pack : W3 m ρ c (Proc.devRef .tc main_v2_1) = packA (wIn m c) := by
  refine (W3_arr m ρ c 4).trans ((final1_4 (V2 m ρ) c).trans ?_)
  show packA (W2 m ρ c (Proc.devRef .tc main_arg1)) = _
  rw [W2_w]
theorem W3_gam : W3 m ρ c (Proc.devRef .tc main_v2_2) = gamA (wIn m c) := by
  refine (W3_arr m ρ c 5).trans ((final1_5 (V2 m ρ) c).trans ?_)
  show gamA (W2 m ρ c (Proc.devRef .tc main_arg1)) = _
  rw [W2_w]

theorem W4_v3 : W4 m ρ c (Proc.devRef .tc main_v3) = shapeCast S2x512x5120 (W3 m ρ c (Proc.devRef .tc main_v2_0)) shapeCasts_S1024x5120_S2x512x5120 := by
  show after hostOps2 (W3 m ρ c) (Proc.devRef .tc main_v3) = _
  simp only [hostOps2]
  after_results_simp <;> rfl
theorem W4_v5 : W4 m ρ c (Proc.devRef .tc main_v5)
    = shapeCast S5120 (extractStridedSlice S5120x1 ![0, 0] (W3 m ρ c (Proc.devRef .tc main_v2_2)) slices_S5120x128_S5120x1_0_0) shapeCasts_S5120x1_S5120 := by
  show after hostOps2 (W3 m ρ c) (Proc.devRef .tc main_v5) = _
  simp only [hostOps2]
  after_results_simp <;> rfl
theorem W4_v6 : W4 m ρ c (Proc.devRef .tc main_v6) = shapeCast S2x512x16384 (W3 m ρ c (Proc.devRef .tc main_v1_0)) shapeCasts_S1024x16384_S2x512x16384 := by
  show after hostOps2 (W3 m ρ c) (Proc.devRef .tc main_v6) = _
  simp only [hostOps2]
  after_results_simp <;> rfl
theorem W4_v9 : W4 m ρ c (Proc.devRef .tc main_v9)
    = shapeCast S2x512 (shapeCast S1024 (extractStridedSlice S1024x1 ![0, 0] (W3 m ρ c (Proc.devRef .tc main_v1_1)) slices_S1024x128_S1024x1_0_0) shapeCasts_S1024x1_S1024) shapeCasts_S1024_S2x512 := by
  show after hostOps2 (W3 m ρ c) (Proc.devRef .tc main_v9) = _
  simp only [hostOps2]
  after_results_simp <;> rfl
end Cert.KernelIdeal.Run
-- ==== Proof.KernVal.lean ====
module

public import proofs.«01_k».proof.Proof.Kern

/-! The kernel program's five results at an index, over the extended reals, from its two arguments. -/

@[expose] public section
set_option maxRecDepth 65536
noncomputable section

namespace Cert.KernelIdeal.Run
open Cert.KernelIdeal Cert.KernelIdeal.Gen Cert.Alg
open Idealize.ShloMosaic Idealize.ShloMosaic.TcCoe Idealize.ShloMosaic.ValueIdx Idealize.SL.Sem
open scoped BigOperators

variable (m : (ℓ : Loc nD τ sig) → Buf (Elt Ideal) ℓ) (ρ : Dev nD → PrngReg) (c : Dev nD)

/-- Token `(a, b)` as a row of the merged array. -/
def tok (a : Fin 2) (b : Fin 512) : Fin 1024 := ⟨a.val * 512 + b.val, by have := a.isLt; have := b.isLt; omega⟩

theorem x_tok (a : Fin 2) (b : Fin 512) (k : Fin 16384) : V1 m ρ c main_v0 (ix2 (tok a b) k) = xIn m c (ix3 a b k) :=
  V1_v0_apply m ρ c a b k (tok a b) rfl
/-- A token's row. -/
theorem row_tok (a : Fin 2) (b : Fin 512) : (fun k => V1 m ρ c main_v0 (ix2 (tok a b) k)) = fun k => xIn m c (ix3 a b k) :=
  funext fun k => x_tok m ρ c a b k

/-- One element of the first result, from an activation row and a weight row. -/
def outRow (f g : Fin 16384 → EReal) : EReal :=
  ((∑ k : Fin 16384, bR (code (rowS f) (f k)) * (((ternZ (rowG g) (g k) : ℤ) : ℝ) : EReal)) * rowS f) * rowG g
theorem outA_codes (X : S1024x16384.Idx → EReal) (W : S5120x16384.Idx → EReal) (t : Fin 1024) (o : Fin 5120) :
    outA W (codesA X) (scalesA X) (ix2 t o) = outRow (fun k => X (ix2 t k)) (fun k => W (ix2 o k)) := rfl

/-- The first result: the product of codes and ternary values, scaled by both scales. -/
theorem v3_apply (a : Fin 2) (b : Fin 512) (o : Fin 5120) : W4 m ρ c (Proc.devRef .tc main_v3) (ix3 a b o)
    = ((∑ k : Fin 16384, bR (code (rowS fun j => xIn m c (ix3 a b j)) (xIn m c (ix3 a b k)))
        * (((ternZ (rowG fun j => wIn m c (ix2 o j)) (wIn m c (ix2 o k)) : ℤ) : ℝ) : EReal)) * rowS fun j => xIn m c (ix3 a b j))
      * rowG fun j => wIn m c (ix2 o j) := by
  rw [W4_v3, W3_out]
  refine (shapeCast_apply _ _ (ix3 a b o) (ix2 (tok a b) o) (by
    rw [Shape.rowMajor_val_two, Shape.rowMajor_val_three]
    rfl)).trans ?_
  refine (outA_codes (V1 m ρ c main_v0) (wIn m c) (tok a b) o).trans ?_
  rw [row_tok]
  rfl

/-- The second result: four ternary values in a byte. -/
theorem v2_1_apply (r : Fin 5120) (q : Fin 4096) : W4 m ρ c (Proc.devRef .tc main_v2_1) (ix2 r q)
    = pk fun i => ternZ (rowG fun j => wIn m c (ix2 r j)) (wIn m c (ix2 r (c4 q i))) := by
  rw [W4_of m ρ c main_v2_1 (by decide), W3_pack]
  rfl

/-- The third result: the gammas. -/
theorem v5_apply (o : Fin 5120) : W4 m ρ c (Proc.devRef .tc main_v5) (ix1 o) = rowG fun j => wIn m c (ix2 o j) := by
  rw [W4_v5, W3_gam]
  refine (shapeCast_apply _ _ (ix1 o) (ix2 o (0 : Fin 1)) (by
    rw [Shape.rowMajor_val_one, Shape.rowMajor_val_two]
    show o.val * 1 + 0 = o.val
    omega)).trans ?_
  exact (extractStridedSlice_apply (s := S5120x128) (t := S5120x1) ![0, 0] _ slices_S5120x128_S5120x1_0_0 (ix2 o (0 : Fin 1)) (ix2 o (0 : Fin 128)) (fun d => match d with
    | 0 => (Nat.zero_add _).symm
    | 1 => rfl)).trans rfl

/-- The fourth result: the codes. -/
theorem v6_apply (a : Fin 2) (b : Fin 512) (j : Fin 16384) : W4 m ρ c (Proc.devRef .tc main_v6) (ix3 a b j)
    = code (rowS fun j => xIn m c (ix3 a b j)) (xIn m c (ix3 a b j)) := by
  rw [W4_v6, W3_codes]
  refine (shapeCast_apply _ _ (ix3 a b j) (ix2 (tok a b) j) (by
    rw [Shape.rowMajor_val_two, Shape.rowMajor_val_three]
    rfl)).trans ?_
  exact congrArg (fun f : Fin 16384 → EReal => code (rowS f) (f j)) (row_tok m ρ c a b)

/-- The fifth result: the scales. -/
theorem v9_apply (a : Fin 2) (b : Fin 512) : W4 m ρ c (Proc.devRef .tc main_v9) (ix2 a b) = rowS fun j => xIn m c (ix3 a b j) := by
  rw [W4_v9, W3_scales]
  refine (shapeCast_apply _ _ (ix2 a b) (ix1 (tok a b)) (by
    rw [Shape.rowMajor_val_one, Shape.rowMajor_val_two]
    rfl)).trans ?_
  refine (shapeCast_apply _ _ (ix1 (tok a b)) (ix2 (tok a b) (0 : Fin 1)) (by
    rw [Shape.rowMajor_val_one, Shape.rowMajor_val_two]
    show (tok a b).val * 1 + 0 = (tok a b).val
    omega)).trans ?_
  refine (extractStridedSlice_apply (s := S1024x128) (t := S1024x1) ![0, 0] _ slices_S1024x128_S1024x1_0_0 (ix2 (tok a b) (0 : Fin 1)) (ix2 (tok a b) (0 : Fin 128)) (fun d => match d with
    | 0 => (Nat.zero_add _).symm
    | 1 => rfl)).trans ?_
  exact congrArg rowS (row_tok m ρ c a b)

/-- Every execution ends with the five results at these contents and the arguments as launched. -/
theorem run : θ_run defs (onTc (τ := τ) (main (F := Ideal))) ⟨m, fun _ => 0, ρ⟩ (fun r => ∀ c : Dev nD,
      r.2.mem ((c.tc : Thread nD τ).loc main_v3) = W4 m ρ c (Proc.devRef .tc main_v3)
      ∧ r.2.mem ((c.tc : Thread nD τ).loc main_v2_1) = W4 m ρ c (Proc.devRef .tc main_v2_1)
      ∧ r.2.mem ((c.tc : Thread nD τ).loc main_v5) = W4 m ρ c (Proc.devRef .tc main_v5)
      ∧ r.2.mem ((c.tc : Thread nD τ).loc main_v6) = W4 m ρ c (Proc.devRef .tc main_v6)
      ∧ r.2.mem ((c.tc : Thread nD τ).loc main_v9) = W4 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨h.1 c _ (mem_uc main_v3 (by decide)), h.1 c _ (mem_uc main_v2_1 (by decide)), h.1 c _ (mem_uc main_v5 (by decide)),
     h.1 c _ (mem_uc main_v6 (by decide)), h.1 c _ (mem_uc main_v9 (by decide)),
     (h.1 c _ (mem_uc main_arg0 (by decide))).trans (W4_main_arg0 m ρ c),
     (h.1 c _ (mem_uc main_arg1 (by decide))).trans (W4_main_arg1 m ρ c)⟩) (run_all m ρ)
end Cert.KernelIdeal.Run
-- ==== Proof.RefBlk.lean ====
module

public import proofs.«01_k».proof.Proof.Scalar
public import proofs.«01_k».proof.Proof.Gen.ReferenceIdeal
public import proofs.«01_k».proof.Proof.Gen.ReferenceIdeal.Frame
public import proofs.«01_k».proof.Proof.Gen.ReferenceIdeal.Points
public import Idealize.ShloMosaic.Lib.Pipeline.Value
public import Idealize.ShloMosaic.Lib.Pipeline.ValueKit.Basic
public import Idealize.ShloMosaic.Lib.ValueIdx
public import Idealize.ShloMosaic.PureOps.Ideal.Laws

/-! What the reference's quantisers compute, element by element, over the extended reals. -/

@[expose] public section
set_option maxRecDepth 65536
noncomputable section

namespace Cert.Alg
open Idealize.ShloMosaic
/-- A ternary value as an int8: what the reference's rounded, clipped, guarded quotient converts to. -/
theorem tern_code (g w : EReal) (hg : 0 ≤ g) (hw : g = 0 → w = 0) :
    Ideal.fptosi 8 (min (Scalar.sitofp (F := Ideal) .f32 1#32) (max (Scalar.sitofp (F := Ideal) .f32 4294967295#32)
      (Ideal.liftRound Ideal.roundHalfEven (Scalar.select (Ideal.cmp .oeq g (Ideal.ofBits .f32 0x00000000#32)) (Ideal.ofBits .f32 0x00000000#32) (Ideal.div w g)))))
      = BitVec.ofInt 8 (ternZ g w) := by
  have h1 : Scalar.sitofp (F := Ideal) .f32 1#32 = (1 : EReal) := by
    show (((1#32).toInt : ℝ) : EReal) = 1
    rw [show (1#32).toInt = 1 by decide]; simp
  have h2 : Scalar.sitofp (F := Ideal) .f32 4294967295#32 = (-1 : EReal) := by
    show (((4294967295#32).toInt : ℝ) : EReal) = -1
    rw [show (4294967295#32).toInt = -1 by decide]; simp
  have h3 : Scalar.select (Ideal.cmp .oeq g (Ideal.ofBits .f32 0x00000000#32)) (Ideal.ofBits .f32 0x00000000#32) (Ideal.div w g)
      = if g = 0 then 0 else Ideal.div w g := by
    rw [Ideal.ofBits_zero_f32]
    by_cases h : g = 0 <;> simp [Scalar.select, Ideal.cmp, h]
  rw [h1, h2, h3, tern_ref g w hg hw, Ideal.fptosi, Ideal.toIntClamped_coe, Int.floor_intCast, Int.ceil_intCast, ite_self]
  rcases ternZ_range g w with e | e | e <;> rw [e] <;> rfl
end Cert.Alg

namespace Cert.ReferenceIdeal.Alg
open Cert.ReferenceIdeal Cert.ReferenceIdeal.Gen Cert.Alg
open Idealize.ShloMosaic Idealize.ShloMosaic.ValueIdx
open scoped BigOperators

/-- A weight row's gamma. -/
theorem pay5_apply (w : Vec Ideal S5120x16384 .bf16) (i : Fin 5120) :
    k0_pay5 w (ix1 i) = rowG fun j => w (ix2 i j) := by
  have e : k0_pay5 w (ix1 i) = Ideal.div (multiReduction (F := Ideal) .add [1] S5120 (absf (k0_pay4 w)) 0x00000000#32 reduces_S5120x16384_S5120 (.inl rfl) rfl (ix1 i))
      (Ideal.ofBits .f32 0x46800000#32) := rfl
  rw [e, lit_n, div_n]
  unfold rowG rowSum
  refine congrArg (· * _) ?_
  refine (Ideal.multiReduction_add_single (a := (1 : Fin S5120x16384.rank)) (absf (k0_pay4 w)) (FKind.add.neutral .f32 (.inl rfl)) reduces_S5120x16384_S5120 (.inl rfl) rfl (ix1 i)).trans ?_
  show ∑ l : Fin 16384, _ = _
  refine Finset.sum_congr rfl fun l _ => ?_
  have hl : reduces_S5120x16384_S5120.lift (ix1 i) l = ix2 i l := by
    funext a
    match a with
    | 0 => rfl
    | 1 => rfl
  show max (k0_pay4 w _) (-(k0_pay4 w _)) = _
  rw [hl]
  rfl

/-- The ternary value of a weight, as an int8. -/
theorem pay6_apply (w : Vec Ideal S5120x16384 .bf16) (i : Fin 5120) (j : Fin 16384) :
    k0_pay6 w (ix2 i j) = BitVec.ofInt 8 (ternZ (rowG fun j => w (ix2 i j)) (w (ix2 i j))) := by
  have eg : shapeCast S5120x1 (k0_pay5 w) shapeCasts_S5120_S5120x1 (ix2 i (0 : Fin 1)) = rowG fun j => w (ix2 i j) := by
    rw [shapeCast_apply _ _ (ix2 i (0 : Fin 1)) (ix1 i) (by
      rw [Shape.rowMajor_val_one, Shape.rowMajor_val_two]
      show i.val = i.val * 1 + 0
      omega), pay5_apply]
  have e : k0_pay6 w (ix2 i j) = Ideal.fptosi 8 (min (Scalar.sitofp (F := Ideal) .f32 1#32) (max (Scalar.sitofp (F := Ideal) .f32 4294967295#32)
      (Ideal.liftRound Ideal.roundHalfEven (Scalar.select
        (broadcastTo S5120x16384 (shapeCast S5120x1 (cmpf .oeq (shapeCast S5120x1 (k0_pay5 w) shapeCasts_S5120_S5120x1) (broadcast S5120x1 (Scalar.ofBits (F := Ideal) .f32 0x00000000#32))) shapeCasts_S5120x1_S5120x1) broadcasts_S5120x1_S5120x16384 (ix2 i j))
        (Ideal.ofBits .f32 0x00000000#32)
        (Ideal.div (w (ix2 i j)) (broadcastTo S5120x16384 (shapeCast S5120x1 (k0_pay5 w) shapeCasts_S5120_S5120x1) broadcasts_S5120x1_S5120x16384 (ix2 i j))))))) := rfl
  rw [e, shapeCast_self, broadcastTo_apply _ _ (ix2 i j) (ix2 i (0 : Fin 1)) (fun a => match a with
    | 0 => rfl
    | 1 => rfl), broadcastTo_apply _ _ (ix2 i j) (ix2 i (0 : Fin 1)) (fun a => match a with
    | 0 => rfl
    | 1 => rfl)]
  have ec : cmpf .oeq (shapeCast S5120x1 (k0_pay5 w) shapeCasts_S5120_S5120x1) (broadcast S5120x1 (Scalar.ofBits (F := Ideal) .f32 0x00000000#32)) (ix2 i (0 : Fin 1))
      = Ideal.cmp .oeq (shapeCast S5120x1 (k0_pay5 w) shapeCasts_S5120_S5120x1 (ix2 i (0 : Fin 1))) (Ideal.ofBits .f32 0x00000000#32) := rfl
  rw [ec, eg]
  exact tern_code _ _ (rowG_nonneg _) (fun h => rowG_zero _ h j)

/-- The greatest magnitude of an activation row. -/
theorem pay10_apply (x : Vec Ideal S2x512x16384 .bf16) (a : Fin 2) (b : Fin 512) :
    k0_pay10 x (ix2 a b) = rowMax fun j => x (ix3 a b j) := by
  unfold k0_pay10
  refine (Ideal.multiReduction_maximumf_single (a := (2 : Fin S2x512x16384.rank)) (absf (k0_pay9 x)) (FKind.maximumf.neutral .f32 (.inl rfl)) reduces_S2x512x16384_S2x512 (.inl rfl) rfl (ix2 a b)).trans ?_
  unfold rowMax
  rw [← lit_bot32]
  refine congrArg (fun f => (Finset.univ : Finset (Fin 16384)).fold max (Ideal.ofBits .f32 0xFF800000#32) f) (funext fun l => ?_)
  have hl : reduces_S2x512x16384_S2x512.lift (ix2 a b) l = ix3 a b l := by
    funext a
    match a with
    | 0 => rfl
    | 1 => rfl
    | 2 => rfl
  show max (k0_pay9 x _) (-(k0_pay9 x _)) = _
  rw [hl]
  rfl

/-- The scale of an activation row. -/
theorem scale_apply (x : Vec Ideal S2x512x16384 .bf16) (a : Fin 2) (b : Fin 512) :
    k0_pay1 (k0_pay11 x) (k0_pay12 x) (k0_pay13 (F := Ideal)) (ix2 a b) = rowS fun j => x (ix3 a b j) := by
  unfold k0_pay1 k0_pay11 k0_pay12 k0_pay13
  refine (scale_gen _ (ix2 a b)).trans (congrArg scaleOf ?_)
  exact pay10_apply x a b

/-- The code of an activation. -/
theorem code_apply (x : Vec Ideal S2x512x16384 .bf16) (a : Fin 2) (b : Fin 512) (j : Fin 16384) :
    k0_pay2 (k0_pay9 x) (k0_pay11 x) (k0_pay12 x) (k0_pay13 (F := Ideal)) (ix3 a b j) = code (rowS fun j => x (ix3 a b j)) (x (ix3 a b j)) := by
  unfold k0_pay2
  rw [code_gen (k0_pay9 x) _ (ix3 a b j), broadcastTo_apply _ _ (ix3 a b j) (ix3 a b (0 : Fin 1)) (fun a => match a with
    | 0 => rfl
    | 1 => rfl
    | 2 => rfl), shapeCast_apply _ _ (ix3 a b (0 : Fin 1)) (ix2 a b) (by
      rw [Shape.rowMajor_val_three, Shape.rowMajor_val_two]
      show a.val * 512 + b.val = (a.val * 512 + b.val) * 1 + 0
      omega), scale_apply]
  rfl
end Cert.ReferenceIdeal.Alg
-- ==== Proof.RefOut.lean ====
module

public import proofs.«01_k».proof.Proof.RefBlk
public import proofs.«01_k».proof.Proof.Gen.ReferenceIdeal.Run
public import proofs.«01_k».proof.Proof.Gen.ReferenceIdeal.Read

/-! What the reference's quantiser body leaves in each window, over the extended reals, as functions of the two arguments. -/

@[expose] public section
set_option maxRecDepth 65536
noncomputable section

namespace Cert.ReferenceIdeal.Alg
open Cert.ReferenceIdeal Cert.ReferenceIdeal.Gen Cert.ReferenceIdeal.Value Cert.Alg
open Idealize.ShloMosaic Idealize.ShloMosaic.TcCoe Idealize.ShloMosaic.ValueIdx Idealize.SL.Sem
open Idealize.ShloMosaic.Pipeline (Dat Cfg Window)
open scoped BigOperators

/-- The scales of an activation array. -/
def scalesR (X : S2x512x16384.Idx → EReal) : S2x512.Idx → EReal := fun i => rowS fun j => X (ix3 (i 0) (i 1) j)
/-- The codes of an activation array. -/
def codesR (X : S2x512x16384.Idx → EReal) : S2x512x16384.Idx → BitVec 8 := fun i => code (rowS fun j => X (ix3 (i 0) (i 1) j)) (X i)
/-- The gammas of a weight array. -/
def gamR (W : S5120x16384.Idx → EReal) : S5120.Idx → EReal := fun i => rowG fun j => W (ix2 (i 0) j)
/-- The ternary values of a weight array. -/
def ternR (W : S5120x16384.Idx → EReal) : S5120x16384.Idx → ℤ := fun i => ternZ (rowG fun j => W (ix2 (i 0) j)) (W i)

/-- A ternary value fits a signed byte. -/
theorem tern_toInt (g w : EReal) : (BitVec.ofInt 8 (ternZ g w)).toInt = ternZ g w := by
  rcases ternZ_range g w with e | e | e <;> rw [e] <;> rfl
/-- And a signed word. -/
theorem tern_ext (g w : EReal) : (BitVec.ofInt 8 (ternZ g w)).signExtend 32 = BitVec.ofInt 32 (ternZ g w) := by
  rcases ternZ_range g w with e | e | e <;> rw [e] <;> rfl

variable (m : (ℓ : Loc nD τ sig) → Buf (Elt Ideal) ℓ) (c : Dev nD)

/-- The two arguments as launched. -/
abbrev xIn : Vec Ideal S2x512x16384 .bf16 := m ((c.tc : Thread nD τ).loc main_arg0)
abbrev wIn : Vec Ideal S5120x16384 .bf16 := m ((c.tc : Thread nD τ).loc main_arg1)

/-- The grid's one point. -/
def pt : Fin cfg0.N := ⟨0, by decide +kernel⟩

/-- Every window is its whole array. -/
theorem emb2 (t : Fin cfg0.N) (y : S2x512x16384.Idx) : ((cfg0.win 2).blk t).view.emb y = y :=
  funext fun a => Fin.ext (by show 0 * _ + 1 * (y a).val = _; omega)
theorem emb3 (t : Fin cfg0.N) (y : S2x512.Idx) : ((cfg0.win 3).blk t).view.emb y = y :=
  funext fun a => Fin.ext (by show 0 * _ + 1 * (y a).val = _; omega)
theorem emb4 (t : Fin cfg0.N) (y : S2x512x16384.Idx) : ((cfg0.win 4).blk t).view.emb y = y :=
  funext fun a => Fin.ext (by show 0 * _ + 1 * (y a).val = _; omega)
theorem emb5 (t : Fin cfg0.N) (y : S5120x16384.Idx) : ((cfg0.win 5).blk t).view.emb y = y :=
  funext fun a => Fin.ext (by show 0 * _ + 1 * (y a).val = _; omega)
theorem emb6 (t : Fin cfg0.N) (y : S5120.Idx) : ((cfg0.win 6).blk t).view.emb y = y :=
  funext fun a => Fin.ext (by show 0 * _ + 1 * (y a).val = _; omega)
theorem emb7 (t : Fin cfg0.N) (y : S5120x16384.Idx) : ((cfg0.win 7).blk t).view.emb y = y :=
  funext fun a => Fin.ext (by show 0 * _ + 1 * (y a).val = _; omega)

theorem iblk_x (t : Fin cfg0.N) : iblk m c 0 t = xIn m c := by
  funext y
  show xIn m c (((cfg0.win 0).blk t).view.emb y) = xIn m c y
  exact congrArg (xIn m c) (funext fun a => Fin.ext (by show 0 * _ + 1 * (y a).val = _; omega))
theorem iblk_w (t : Fin cfg0.N) : iblk m c 1 t = wIn m c := by
  funext y
  show wIn m c (((cfg0.win 1).blk t).view.emb y) = wIn m c y
  exact congrArg (wIn m c) (funext fun a => Fin.ext (by show 0 * _ + 1 * (y a).val = _; omega))

/-- What the body leaves in each window, from the two arguments. -/
theorem out2 (x : Vec Ideal S2x512x16384 .bf16) (w : Vec Ideal S5120x16384 .bf16) : out0_2 x w = codesR x := by
  unfold out0_2 k0_pay17 k0_pay16 k0_pay15 k0_pay14
  rw [View.ld_unit_zero (by decide +kernel), View.canon_cons_unit_lit (Val := Elt Ideal) _ _ _ (by decide +kernel)]
  funext y
  obtain ⟨a, b, j, rfl⟩ : ∃ (a : Fin 2) (b : Fin 512) (j : Fin 16384), y = ix3 a b j := ⟨_, _, _, eq_ix3 y⟩
  exact code_apply x a b j
theorem out3 (x : Vec Ideal S2x512x16384 .bf16) (w : Vec Ideal S5120x16384 .bf16) : out0_3 x w = scalesR x := by
  unfold out0_3 k0_pay17 k0_pay16 k0_pay15
  rw [View.ld_unit_zero (by decide +kernel), View.canon_cons_unit_lit (Val := Elt Ideal) _ _ _ (by decide +kernel)]
  funext y
  obtain ⟨a, b, rfl⟩ : ∃ (a : Fin 2) (b : Fin 512), y = ix2 a b := ⟨_, _, eq_ix2 y⟩
  exact scale_apply x a b
theorem out4 (x : Vec Ideal S2x512x16384 .bf16) (w : Vec Ideal S5120x16384 .bf16) :
    out0_4 x w = fun i => (((codesR x i).toInt : ℝ) : EReal) := by
  unfold out0_4 k0_pay17 k0_pay16 k0_pay15 k0_pay14
  rw [View.ld_unit_zero (by decide +kernel), View.canon_cons_unit_lit (Val := Elt Ideal) _ _ _ (by decide +kernel)]
  funext y
  obtain ⟨a, b, j, rfl⟩ : ∃ (a : Fin 2) (b : Fin 512) (j : Fin 16384), y = ix3 a b j := ⟨_, _, _, eq_ix3 y⟩
  exact congrArg (fun v : BitVec 8 => ((v.toInt : ℝ) : EReal)) (code_apply x a b j)
theorem out5 (x : Vec Ideal S2x512x16384 .bf16) (w : Vec Ideal S5120x16384 .bf16) :
    out0_5 x w = fun i => BitVec.ofInt 32 (ternR w i) := by
  unfold out0_5
  rw [View.ld_unit_zero (by decide +kernel), View.canon_cons_unit_lit (Val := Elt Ideal) _ _ _ (by decide +kernel)]
  funext y
  obtain ⟨i, j, rfl⟩ : ∃ (i : Fin 5120) (j : Fin 16384), y = ix2 i j := ⟨_, _, eq_ix2 y⟩
  exact (congrArg (BitVec.signExtend 32) (pay6_apply w i j)).trans (tern_ext _ _)
theorem out6 (x : Vec Ideal S2x512x16384 .bf16) (w : Vec Ideal S5120x16384 .bf16) : out0_6 x w = gamR w := by
  unfold out0_6
  rw [View.ld_unit_zero (by decide +kernel), View.canon_cons_unit_lit (Val := Elt Ideal) _ _ _ (by decide +kernel)]
  funext y
  obtain ⟨i, rfl⟩ : ∃ (i : Fin 5120), y = ix1 i := ⟨_, eq_ix1 y⟩
  exact pay5_apply w i
theorem out7 (x : Vec Ideal S2x512x16384 .bf16) (w : Vec Ideal S5120x16384 .bf16) :
    out0_7 x w = fun i => ((ternR w i : ℝ) : EReal) := by
  unfold out0_7
  rw [View.ld_unit_zero (by decide +kernel), View.canon_cons_unit_lit (Val := Elt Ideal) _ _ _ (by decide +kernel)]
  funext y
  obtain ⟨i, j, rfl⟩ : ∃ (i : Fin 5120) (j : Fin 16384), y = ix2 i j := ⟨_, _, eq_ix2 y⟩
  refine (congrArg (fun v : BitVec 8 => ((v.toInt : ℝ) : EReal)) (pay6_apply w i j)).trans ?_
  show (((BitVec.ofInt 8 (ternZ _ _)).toInt : ℝ) : EReal) = _
  rw [tern_toInt]
  rfl

end Cert.ReferenceIdeal.Alg
-- ==== Proof.RefArr.lean ====
module

public import proofs.«01_k».proof.Proof.RefOut

/-! The arrays the reference's quantiser leaves, over the extended reals, as functions of the two arguments. -/

@[expose] public section
set_option maxRecDepth 65536
noncomputable section

namespace Cert.ReferenceIdeal.Alg
open Cert.ReferenceIdeal Cert.ReferenceIdeal.Gen Cert.ReferenceIdeal.Value Cert.Alg
open Idealize.ShloMosaic Idealize.ShloMosaic.TcCoe Idealize.ShloMosaic.ValueIdx Idealize.SL.Sem
open Idealize.ShloMosaic.Pipeline (Dat Cfg Window)
open scoped BigOperators

variable (m : (ℓ : Loc nD τ sig) → Buf (Elt Ideal) ℓ) (c : Dev nD)

/-- The arrays the region leaves. -/
theorem reg0 : reg_main_v0_0 m c = codesR (xIn m c) :=
  (dats m 0 c).arrAt_eq_of_cover 2 (codesR (xIn m c)) (fun t _ => by
    show (cfg0.win 2).cut (grid0.coords t) ((dats m 0 c).after 2 t) = _
    rw [after0_2, iblk_x, iblk_w, out2]
    funext y
    show (codesR (xIn m c)) y = (codesR (xIn m c)) (((cfg0.win 2).blk t).view.emb y)
    rw [emb2]) (fun y => ⟨pt, flush0_2 _, by
    have h := ((cfg0.win 2).blk pt).view.emb_mem_set y
    rw [emb2] at h
    exact h⟩)
theorem reg1 : reg_main_v0_1 m c = scalesR (xIn m c) :=
  (dats m 0 c).arrAt_eq_of_cover 3 (scalesR (xIn m c)) (fun t _ => by
    show (cfg0.win 3).cut (grid0.coords t) ((dats m 0 c).after 3 t) = _
    rw [after0_3, iblk_x, iblk_w, out3]
    funext y
    show (scalesR (xIn m c)) y = (scalesR (xIn m c)) (((cfg0.win 3).blk t).view.emb y)
    rw [emb3]) (fun y => ⟨pt, flush0_3 _, by
    have h := ((cfg0.win 3).blk pt).view.emb_mem_set y
    rw [emb3] at h
    exact h⟩)
theorem reg2 : reg_main_v0_2 m c = fun i => (((codesR (xIn m c) i).toInt : ℝ) : EReal) :=
  (dats m 0 c).arrAt_eq_of_cover 4 (fun i => (((codesR (xIn m c) i).toInt : ℝ) : EReal)) (fun t _ => by
    show (cfg0.win 4).cut (grid0.coords t) ((dats m 0 c).after 4 t) = _
    rw [after0_4, iblk_x, iblk_w, out4]
    funext y
    show (fun i => (((codesR (xIn m c) i).toInt : ℝ) : EReal)) y = (fun i => (((codesR (xIn m c) i).toInt : ℝ) : EReal)) (((cfg0.win 4).blk t).view.emb y)
    rw [emb4]) (fun y => ⟨pt, flush0_4 _, by
    have h := ((cfg0.win 4).blk pt).view.emb_mem_set y
    rw [emb4] at h
    exact h⟩)
theorem reg3 : reg_main_v0_3 m c = fun i => BitVec.ofInt 32 (ternR (wIn m c) i) :=
  (dats m 0 c).arrAt_eq_of_cover 5 (fun i => BitVec.ofInt 32 (ternR (wIn m c) i)) (fun t _ => by
    show (cfg0.win 5).cut (grid0.coords t) ((dats m 0 c).after 5 t) = _
    rw [after0_5, iblk_x, iblk_w, out5]
    funext y
    show (fun i => BitVec.ofInt 32 (ternR (wIn m c) i)) y = (fun i => BitVec.ofInt 32 (ternR (wIn m c) i)) (((cfg0.win 5).blk t).view.emb y)
    rw [emb5]) (fun y => ⟨pt, flush0_5 _, by
    have h := ((cfg0.win 5).blk pt).view.emb_mem_set y
    rw [emb5] at h
    exact h⟩)
theorem reg4 : reg_main_v0_4 m c = gamR (wIn m c) :=
  (dats m 0 c).arrAt_eq_of_cover 6 (gamR (wIn m c)) (fun t _ => by
    show (cfg0.win 6).cut (grid0.coords t) ((dats m 0 c).after 6 t) = _
    rw [after0_6, iblk_x, iblk_w, out6]
    funext y
    show (gamR (wIn m c)) y = (gamR (wIn m c)) (((cfg0.win 6).blk t).view.emb y)
    rw [emb6]) (fun y => ⟨pt, flush0_6 _, by
    have h := ((cfg0.win 6).blk pt).view.emb_mem_set y
    rw [emb6] at h
    exact h⟩)
theorem reg5 : reg_main_v0_5 m c = fun i => ((ternR (wIn m c) i : ℝ) : EReal) :=
  (dats m 0 c).arrAt_eq_of_cover 7 (fun i => ((ternR (wIn m c) i : ℝ) : EReal)) (fun t _ => by
    show (cfg0.win 7).cut (grid0.coords t) ((dats m 0 c).after 7 t) = _
    rw [after0_7, iblk_x, iblk_w, out7]
    funext y
    show (fun i => ((ternR (wIn m c) i : ℝ) : EReal)) y = (fun i => ((ternR (wIn m c) i : ℝ) : EReal)) (((cfg0.win 7).blk t).view.emb y)
    rw [emb7]) (fun y => ⟨pt, flush0_7 _, by
    have h := ((cfg0.win 7).blk pt).view.emb_mem_set y
    rw [emb7] at h
    exact h⟩)
end Cert.ReferenceIdeal.Alg
-- ==== Proof.RefVal.lean ====
module

public import proofs.«01_k».proof.Proof.RefArr

/-! The reference's two host-computed results at an index, over the extended reals. -/

@[expose] public section
set_option maxRecDepth 65536
noncomputable section

namespace Cert.ReferenceIdeal.Alg
open Cert.ReferenceIdeal Cert.ReferenceIdeal.Gen Cert.ReferenceIdeal.Value Cert.ReferenceIdeal.Read Cert.Alg
open Idealize.ShloMosaic Idealize.ShloMosaic.TcCoe Idealize.ShloMosaic.ValueIdx Idealize.SL.Sem
open scoped BigOperators

/-- The scaled product, at an index, from the region's arrays. -/
theorem v8_apply (r1 : S2x512.Idx → EReal) (r2 : S2x512x16384.Idx → EReal) (r4 : S5120.Idx → EReal) (r5 : S5120x16384.Idx → EReal)
    (a : Fin 2) (b : Fin 512) (o : Fin 5120) :
    val_main_v8 (F := Ideal) r1 r2 r4 r5 (ix3 a b o) = ((∑ k : Fin 16384, r2 (ix3 a b k) * r5 (ix2 o k)) * r1 (ix2 a b)) * r4 (ix1 o) := by
  rw [val_main_v8_apply]
  show val_main_v7 (F := Ideal) r1 r2 r4 r5 (ix3 a b o) = _
  rw [val_main_v7_apply, val_main_v4_apply, val_main_v1_apply, val_main_v3_apply, val_main_v2_apply, val_main_v6_apply, val_main_v5_apply]
  have e1 (k : Fin 16384) : lidx_main_v1 (ix3 a b o) k = ix3 a b k := funext fun d => by
    match d with
    | 0 => rfl
    | 1 => rfl
    | 2 => rfl
  have e2 (k : Fin 16384) : ridx_main_v1 (ix3 a b o) k = ix2 o k := funext fun d => by
    match d with
    | 0 => rfl
    | 1 => rfl
  have e3 : idx_main_v2 (idx_main_v3 (ix3 a b o)) = ix2 a b := funext fun d => by
    match d with
    | 0 => rfl
    | 1 => rfl
  have e4 : idx_main_v5 (idx_main_v6 (ix3 a b o)) = ix1 o := funext fun d => by
    match d with
    | 0 => rfl
  simp only [e1, e2]
  rw [e3, e4]
  rfl

/-- Column `4 q + p`. -/
def col4 (q : Fin 4096) (p : Fin 4) : Fin 16384 := ⟨4 * q.val + p.val, by have := q.isLt; have := p.isLt; omega⟩

theorem v11_apply (r3 : S5120x16384.Idx → BitVec 32) (i : Fin 5120) (q : Fin 4096) (p : Fin 4) :
    val_main_v11 (F := Ideal) r3 (ix3 i q p) = r3 (ix2 i (col4 q p)) + 1#32 := by
  have hi := i.isLt
  have hq := q.isLt
  have hp := p.isLt
  rw [val_main_v11_apply, val_main_v10_apply, val_main_v9_apply, val_main_c_apply]
  refine congrArg (fun j => r3 j + 1#32) (funext fun d => Fin.ext ?_)
  match d with
  | 0 => show ((i.val * 4096 + q.val) * 4 + p.val) / 16384 = i.val; omega
  | 1 => show ((i.val * 4096 + q.val) * 4 + p.val) % 16384 = 4 * q.val + p.val; omega

/-- The packed byte, at an index, from the region's array of ternary values. -/
theorem v29_apply (r3 : S5120x16384.Idx → BitVec 32) (i : Fin 5120) (q : Fin 4096) :
    val_main_v29 (F := Ideal) r3 (ix2 i q) = BitVec.setWidth 8 ((r3 (ix2 i (col4 q 0)) + 1#32) ||| IntOp.shli .host (r3 (ix2 i (col4 q 1)) + 1#32) 2#32
      ||| IntOp.shli .host (r3 (ix2 i (col4 q 2)) + 1#32) 4#32 ||| IntOp.shli .host (r3 (ix2 i (col4 q 3)) + 1#32) 6#32) := by
  have hi := i.isLt
  have hq := q.isLt
  have e (p : Fin 4) (j : S5120x4096x4.Idx) (h0 : (j 0).val = i.val) (h1 : (j 1).val = q.val) (h2 : (j 2).val = p.val) :
      val_main_v11 (F := Ideal) r3 j = r3 (ix2 i (col4 q p)) + 1#32 := by
    rw [show j = ix3 i q p from funext fun d => Fin.ext (by
      match d with
      | 0 => exact h0
      | 1 => exact h1
      | 2 => exact h2), v11_apply]
  have g0 : (i.val * 4096 + q.val) / 4096 = i.val := by omega
  have g1 : (i.val * 4096 + q.val) / 1 % 4096 = q.val := by omega
  rw [val_main_v29_apply, val_main_v28_apply, val_main_v23_apply, val_main_v27_apply, val_main_v22_apply]
  rw [val_main_v26_apply, val_main_c_2_apply, val_main_v25_apply, val_main_v24_apply, e 3 _ g0 g1 rfl]
  rw [val_main_v21_apply, val_main_c_1_apply, val_main_v20_apply, val_main_v19_apply, e 2 _ g0 g1 rfl]
  rw [val_main_v18_apply, val_main_v17_apply, val_main_v16_apply, val_main_c_0_apply, val_main_v15_apply, val_main_v14_apply, e 1 _ g0 g1 rfl]
  rw [val_main_v13_apply, val_main_v12_apply, e 0 _ g0 g1 rfl]
  rfl
end Cert.ReferenceIdeal.Alg
-- ==== Proof.Equal.lean ====
module

public import proofs.«01_k».proof.Proof.KernVal
public import proofs.«01_k».proof.Proof.RefVal

/-! The equation: from memories that agree on the two arguments, the reference's five results are the kernel program's. -/

@[expose] public section
set_option maxRecDepth 65536
noncomputable section

namespace Cert.Equal
open Cert.Alg
open Idealize.ShloMosaic Idealize.ShloMosaic.TcCoe Idealize.ShloMosaic.ValueIdx Idealize.SL.Sem
open scoped BigOperators

/-- One code of a packed byte: the reference's word, shifted and cut to a byte, is the kernel's byte, shifted. -/
theorem word0 (z : ℤ) (hz : z = 1 ∨ z = -1 ∨ z = 0) :
    BitVec.setWidth 8 (BitVec.ofInt 32 z + 1#32) = Cert.KernelIdeal.Run.cb z <<< 0 := by
  rcases hz with rfl | rfl | rfl <;> rfl
theorem word2 (z : ℤ) (hz : z = 1 ∨ z = -1 ∨ z = 0) :
    BitVec.setWidth 8 (IntOp.shli .host (BitVec.ofInt 32 z + 1#32) 2#32) = Cert.KernelIdeal.Run.cb z <<< 2 := by
  rcases hz with rfl | rfl | rfl <;> rfl
theorem word4 (z : ℤ) (hz : z = 1 ∨ z = -1 ∨ z = 0) :
    BitVec.setWidth 8 (IntOp.shli .host (BitVec.ofInt 32 z + 1#32) 4#32) = Cert.KernelIdeal.Run.cb z <<< 4 := by
  rcases hz with rfl | rfl | rfl <;> rfl
theorem word6 (z : ℤ) (hz : z = 1 ∨ z = -1 ∨ z = 0) :
    BitVec.setWidth 8 (IntOp.shli .host (BitVec.ofInt 32 z + 1#32) 6#32) = Cert.KernelIdeal.Run.cb z <<< 6 := by
  rcases hz with rfl | rfl | rfl <;> rfl

/-- The four codes of a byte. -/
theorem packed (z : Fin 4 → ℤ) (hz : ∀ i, z i = 1 ∨ z i = -1 ∨ z i = 0) :
    BitVec.setWidth 8 ((BitVec.ofInt 32 (z 0) + 1#32) ||| IntOp.shli .host (BitVec.ofInt 32 (z 1) + 1#32) 2#32
      ||| IntOp.shli .host (BitVec.ofInt 32 (z 2) + 1#32) 4#32 ||| IntOp.shli .host (BitVec.ofInt 32 (z 3) + 1#32) 6#32)
      = Cert.KernelIdeal.Run.pk z := by
  rw [BitVec.setWidth_or, BitVec.setWidth_or, BitVec.setWidth_or, word0 _ (hz 0), word2 _ (hz 1), word4 _ (hz 2), word6 _ (hz 3)]
  rfl

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)
  (hx : Cert.ReferenceIdeal.Alg.xIn m' c = Cert.KernelIdeal.Run.xIn m c) (hw : Cert.ReferenceIdeal.Alg.wIn m' c = Cert.KernelIdeal.Run.wIn m c)
include hx hw

/-- The first result. -/
theorem res0 : Cert.ReferenceIdeal.Read.val_main_v8 (F := Ideal) (Cert.ReferenceIdeal.Value.reg_main_v0_1 m' c) (Cert.ReferenceIdeal.Value.reg_main_v0_2 m' c)
      (Cert.ReferenceIdeal.Value.reg_main_v0_4 m' c) (Cert.ReferenceIdeal.Value.reg_main_v0_5 m' c)
    = Cert.KernelIdeal.Run.W4 m ρ c (Proc.devRef .tc Cert.KernelIdeal.main_v3) := by
  funext y
  obtain ⟨a, b, o, rfl⟩ : ∃ (a : Fin 2) (b : Fin 512) (o : Fin 5120), y = ix3 a b o := ⟨_, _, _, eq_ix3 y⟩
  rw [Cert.ReferenceIdeal.Alg.reg1, Cert.ReferenceIdeal.Alg.reg2, Cert.ReferenceIdeal.Alg.reg4, Cert.ReferenceIdeal.Alg.reg5, hx, hw]
  exact (Cert.ReferenceIdeal.Alg.v8_apply _ _ _ _ a b o).trans (Cert.KernelIdeal.Run.v3_apply m ρ c a b o).symm

/-- The second result. -/
theorem res1 : Cert.ReferenceIdeal.Read.val_main_v29 (F := Ideal) (Cert.ReferenceIdeal.Value.reg_main_v0_3 m' c)
    = Cert.KernelIdeal.Run.W4 m ρ c (Proc.devRef .tc Cert.KernelIdeal.main_v2_1) := by
  funext y
  obtain ⟨r, q, rfl⟩ : ∃ (r : Fin 5120) (q : Fin 4096), y = ix2 r q := ⟨_, _, eq_ix2 y⟩
  rw [Cert.ReferenceIdeal.Alg.reg3, hw]
  refine (Cert.ReferenceIdeal.Alg.v29_apply _ r q).trans (Eq.trans ?_ (Cert.KernelIdeal.Run.v2_1_apply m ρ c r q).symm)
  exact packed (fun i => ternZ (rowG fun j => Cert.KernelIdeal.Run.wIn m c (ix2 r j)) (Cert.KernelIdeal.Run.wIn m c (ix2 r (Cert.KernelIdeal.Run.c4 q i))))
    (fun i => ternZ_range _ _)

/-- The third result. -/
theorem res2 : Cert.ReferenceIdeal.Value.reg_main_v0_4 m' c = Cert.KernelIdeal.Run.W4 m ρ c (Proc.devRef .tc Cert.KernelIdeal.main_v5) := by
  rw [Cert.ReferenceIdeal.Alg.reg4, hw]
  funext y
  obtain ⟨o, rfl⟩ : ∃ (o : Fin 5120), y = ix1 o := ⟨_, eq_ix1 y⟩
  exact (Cert.KernelIdeal.Run.v5_apply m ρ c o).symm

/-- The fourth result. -/
theorem res3 : Cert.ReferenceIdeal.Value.reg_main_v0_0 m' c = Cert.KernelIdeal.Run.W4 m ρ c (Proc.devRef .tc Cert.KernelIdeal.main_v6) := by
  rw [Cert.ReferenceIdeal.Alg.reg0, hx]
  funext y
  obtain ⟨a, b, j, rfl⟩ : ∃ (a : Fin 2) (b : Fin 512) (j : Fin 16384), y = ix3 a b j := ⟨_, _, _, eq_ix3 y⟩
  exact (Cert.KernelIdeal.Run.v6_apply m ρ c a b j).symm

/-- The fifth result. -/
theorem res4 : Cert.ReferenceIdeal.Value.reg_main_v0_1 m' c = Cert.KernelIdeal.Run.W4 m ρ c (Proc.devRef .tc Cert.KernelIdeal.main_v9) := by
  rw [Cert.ReferenceIdeal.Alg.reg1, hx]
  funext y
  obtain ⟨a, b, rfl⟩ : ∃ (a : Fin 2) (b : Fin 512), y = ix2 a b := ⟨_, _, eq_ix2 y⟩
  exact (Cert.KernelIdeal.Run.v9_apply m ρ c a b).symm
end Cert.Equal
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.Transport
public import proofs.«01_k».proof.Proof.Equal
public import Idealize.ShloMosaic.Adequacy
public import Idealize.ShloMosaic.Init

@[expose] public section

noncomputable section

namespace Cert.Proof

open Idealize.ShloMosaic Idealize.ShloMosaic.TcCoe Idealize.SL.Sem Cert.Kernel

/-- Kernel and reference leave equal results over the extended reals: the kernel's run and the reference's, the latter's
    five results rewritten by the equation. -/
theorem algebraic : Cert.algebraic_KernelIdeal_ReferenceIdeal (hKernelIdeal := Cert.KernelIdeal.Gen.facts)
    (hReferenceIdeal := Cert.ReferenceIdeal.Gen.facts) := fun m g m' g' _ hm =>
  ⟨fun c => Cert.KernelIdeal.Run.W4 m g c (Proc.devRef .tc Cert.KernelIdeal.main_v3),
   fun c => Cert.KernelIdeal.Run.W4 m g c (Proc.devRef .tc Cert.KernelIdeal.main_v2_1),
   fun c => Cert.KernelIdeal.Run.W4 m g c (Proc.devRef .tc Cert.KernelIdeal.main_v5),
   fun c => Cert.KernelIdeal.Run.W4 m g c (Proc.devRef .tc Cert.KernelIdeal.main_v6),
   fun c => Cert.KernelIdeal.Run.W4 m g c (Proc.devRef .tc Cert.KernelIdeal.main_v9),
   Cert.KernelIdeal.Run.run m g,
   (θ_run _ _ _).mono (fun _ h c => by
     obtain ⟨h0, h1, h2, h3, h4, h5, h6⟩ := h c
     exact ⟨h0.trans (Cert.Equal.res0 m g m' c (hm c).1 (hm c).2), h1.trans (Cert.Equal.res1 m g m' c (hm c).1 (hm c).2),
       h2.trans (Cert.Equal.res2 m g m' c (hm c).1 (hm c).2), h3.trans (Cert.Equal.res3 m g m' c (hm c).1 (hm c).2),
       h4.trans (Cert.Equal.res4 m g m' c (hm c).1 (hm c).2), h5, h6⟩) (Cert.ReferenceIdeal.Value.run (F := Ideal) m' g')⟩

/-- Every claim of the certificate. -/
theorem claim : Cert.Claim :=
  ⟨Cert.Kernel.Gen.facts, Cert.KernelIdeal.Gen.facts, Cert.ReferenceIdeal.Gen.facts,
    fun m g _ => Cert.KernelIdeal.Run.frame_Kernel m g,
    fun m g _ => Cert.KernelIdeal.Run.frame (F := Ideal) m g,
    fun m g _ => Cert.ReferenceIdeal.Gen.frame (F := Ideal) m g,
    trivial, algebraic⟩

end Cert.Proof

end
